-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 512]⟩ ⟨2, ![2048, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S2048x2048 : Shape := ⟨2, ![2048, 2048]⟩
abbrev S2048x512 : Shape := ⟨2, ![2048, 512]⟩
abbrev S2x2048x512 : Shape := ⟨3, ![2, 2048, 512]⟩
abbrev S4x512x512 : Shape := ⟨3, ![4, 512, 512]⟩
abbrev S3x512x512 : Shape := ⟨3, ![3, 512, 512]⟩
abbrev S3x8x128 : Shape := ⟨3, ![3, 8, 128]⟩
abbrev S_ : Shape := ⟨0, ![]⟩
abbrev S2x2 : Shape := ⟨2, ![2, 2]⟩
abbrev S4 : Shape := ⟨1, ![4]⟩
abbrev S6 : Shape := ⟨1, ![6]⟩
abbrev S1x1 : Shape := ⟨2, ![1, 1]⟩
abbrev S1x1024x512 : Shape := ⟨3, ![1, 1024, 512]⟩
abbrev S1024x512 : Shape := ⟨2, ![1024, 512]⟩
abbrev S512x1024 : Shape := ⟨2, ![512, 1024]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩

abbrev nBuf : Space → Nat
  | .hbm => 3
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048x2048, .f32⟩
  | .hbm, ⟨2, _⟩ => ⟨S2048x512, .f32⟩
  | .local _ .vmem, ⟨0, _⟩ => ⟨S512x2048, .f32⟩
  | .local _ .vmem, ⟨1, _⟩ => ⟨S2x2048x512, .f32⟩
  | .local _ .vmem, ⟨2, _⟩ => ⟨S4x512x512, .f32⟩
  | .local _ .vmem, ⟨3, _⟩ => ⟨S3x512x512, .i8⟩
  | .local _ .vmem, ⟨4, _⟩ => ⟨S3x512x512, .i8⟩
  | .local _ .vmem, ⟨5, _⟩ => ⟨S3x8x128, .f32⟩
  | .local _ .vmem, ⟨6, _⟩ => ⟨S3x8x128, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_12 : BitVec 32 := 1#32
  let v15 : BitVec 32 := Scalar.muli v9 c1_i32_12
  let v16 : BitVec 32 := Scalar.addi c0_i32_13 v15
  v16.toNat
def k0_off1 (d0 : Dev nD) (c2_i32_14 : BitVec 32) : Fin 2 → Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v17 : BitVec 32 := Scalar.addi v2 c2_i32_14
  let c4_i32_15 : BitVec 32 := 4#32
  let v18 : BitVec 32 := Scalar.remsi v17 c4_i32_15
  let c512_i32 : BitVec 32 := 512#32
  let v19 : BitVec 32 := Scalar.muli v18 c512_i32
  ![0, v19.toNat]
def k0_off2 (d0 : Dev nD) (c2_i32_22 : BitVec 32) : Fin 2 → Nat :=
  let c1024_i32_29 : BitVec 32 := 1024#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.addi v2 c2_i32_22
  let c4_i32_23 : BitVec 32 := 4#32
  let v26 : BitVec 32 := Scalar.remsi v25 c4_i32_23
  let c512_i32_24 : BitVec 32 := 512#32
  let v27 : BitVec 32 := Scalar.muli v26 c512_i32_24
  ![1024, v27.toNat]
def k0_dev4 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_73 : BitVec 32 := 2#32
  let v78 : BitVec 32 := Scalar.addi v2 c2_i32_73
  let c4_i32_74 : BitVec 32 := 4#32
  let v79 : BitVec 32 := Scalar.remsi v78 c4_i32_74
  let c1_i32_88 : BitVec 32 := 1#32
  let v99 : BitVec 32 := Scalar.muli v79 c1_i32_88
  let v100 : BitVec 32 := Scalar.addi c0_i32_89 v99
  v100.toNat
def k0_dev5 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_73 : BitVec 32 := 2#32
  let v78 : BitVec 32 := Scalar.addi v2 c2_i32_73
  let c4_i32_74 : BitVec 32 := 4#32
  let v79 : BitVec 32 := Scalar.remsi v78 c4_i32_74
  let c1_i32_97 : BitVec 32 := 1#32
  let v109 : BitVec 32 := Scalar.muli v79 c1_i32_97
  let v110 : BitVec 32 := Scalar.addi c0_i32_98 v109
  v110.toNat
def k0_dev6 (d0 : Dev nD) : Nat :=
  let c0_i32_163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_146 : BitVec 32 := 1#32
  let v162 : BitVec 32 := Scalar.addi v2 c1_i32_146
  let c4_i32_147 : BitVec 32 := 4#32
  let v163 : BitVec 32 := Scalar.remsi v162 c4_i32_147
  let c1_i32_162 : BitVec 32 := 1#32
  let v183 : BitVec 32 := Scalar.muli v163 c1_i32_162
  let v184 : BitVec 32 := Scalar.addi c0_i32_163 v183
  v184.toNat
def k0_dev7 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_146 : BitVec 32 := 1#32
  let v162 : BitVec 32 := Scalar.addi v2 c1_i32_146
  let c4_i32_147 : BitVec 32 := 4#32
  let v163 : BitVec 32 := Scalar.remsi v162 c4_i32_147
  let c1_i32_172 : BitVec 32 := 1#32
  let v193 : BitVec 32 := Scalar.muli v163 c1_i32_172
  let v194 : BitVec 32 := Scalar.addi c0_i32_173 v193
  v194.toNat
def k0_dev8 (d0 : Dev nD) : Nat :=
  let c0_i32_239 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_222 : BitVec 32 := 3#32
  let v246 : BitVec 32 := Scalar.addi v2 c3_i32_222
  let c4_i32_223 : BitVec 32 := 4#32
  let v247 : BitVec 32 := Scalar.remsi v246 c4_i32_223
  let c1_i32_238 : BitVec 32 := 1#32
  let v267 : BitVec 32 := Scalar.muli v247 c1_i32_238
  let v268 : BitVec 32 := Scalar.addi c0_i32_239 v267
  v268.toNat
def k0_dev9 (d0 : Dev nD) : Nat :=
  let c0_i32_249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_222 : BitVec 32 := 3#32
  let v246 : BitVec 32 := Scalar.addi v2 c3_i32_222
  let c4_i32_223 : BitVec 32 := 4#32
  let v247 : BitVec 32 := Scalar.remsi v246 c4_i32_223
  let c1_i32_248 : BitVec 32 := 1#32
  let v277 : BitVec 32 := Scalar.muli v247 c1_i32_248
  let v278 : BitVec 32 := Scalar.addi c0_i32_249 v277
  v278.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_282 : BitVec 32 := 512#32
  let v317 : BitVec 32 := Scalar.muli v2 c512_i32_282
  let c0_i32_285 : BitVec 32 := 0#32
  ![v317.toNat, 0]
def k0_off4 (d0 : Dev nD) (c2_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c2_i32
  let c4_i32_5 : BitVec 32 := 4#32
  let v9 : BitVec 32 := Scalar.remsi v8 c4_i32_5
  let c512_i32_317 : BitVec 32 := 512#32
  let v349 : BitVec 32 := Scalar.muli v9 c512_i32_317
  let c0_i32_320 : BitVec 32 := 0#32
  ![v349.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c512_i32_352 : BitVec 32 := 512#32
  let v381 : BitVec 32 := Scalar.muli v5 c512_i32_352
  let c0_i32_355 : BitVec 32 := 0#32
  ![v381.toNat, 0]
-- ==== ReferenceIdeal.lean ====
abbrev S2048x2048 : Shape := ⟨2, ![2048, 2048]⟩
abbrev S4x512x4x512 : Shape := ⟨4, ![4, 512, 4, 512]⟩
abbrev S_ : Shape := ⟨0, ![]⟩
abbrev S4x4 : Shape := ⟨2, ![4, 4]⟩
abbrev S4x1x4x1 : Shape := ⟨4, ![4, 1, 4, 1]⟩

abbrev nBuf : Space → Nat
  | .hbm => 28
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S4x512x4x512, .f32⟩
  | .hbm, ⟨4, _⟩ => ⟨S4x512x4x512, .f32⟩
  | .hbm, ⟨5, _⟩ => ⟨S_, .f32⟩
  | .hbm, ⟨6, _⟩ => ⟨S4x4, .f32⟩
  | .hbm, ⟨7, _⟩ => ⟨S4x1x4x1, .f32⟩
  | .hbm, ⟨8, _⟩ => ⟨S_, .f32⟩
  | .hbm, ⟨9, _⟩ => ⟨S4x1x4x1, .f32⟩
  | .hbm, ⟨10, _⟩ => ⟨S4x1x4x1, .f32⟩
  | .hbm, ⟨11, _⟩ => ⟨S_, .f32⟩
  | .hbm, ⟨12, _⟩ => ⟨S4x1x4x1, .f32⟩
  | .hbm, ⟨13, _⟩ => ⟨S4x1x4x1, .f32⟩
  | .hbm, ⟨14, _⟩ => ⟨S4x512x4x512, .f32⟩
  | .hbm, ⟨15, _⟩ => ⟨S4x512x4x512, .f32⟩
  | .hbm, ⟨16, _⟩ => ⟨S4x512x4x512, .f32⟩
  | .hbm, ⟨17, _⟩ => ⟨S_, .f32⟩
  | .hbm, ⟨18, _⟩ => ⟨S4x1x4x1, .f32⟩
  | .hbm, ⟨19, _⟩ => ⟨S4x1x4x1, .f32⟩
  | .hbm, ⟨20, _⟩ => ⟨S4x512x4x512, .f32⟩
  | .hbm, ⟨21, _⟩ => ⟨S4x512x4x512, .f32⟩
  | .hbm, ⟨22, _⟩ => ⟨S4x1x4x1, .i32⟩
  | .hbm, ⟨23, _⟩ => ⟨S4x1x4x1, .i32⟩
  | .hbm, ⟨24, _⟩ => ⟨S4x1x4x1, .i1⟩
  | .hbm, ⟨25, _⟩ => ⟨S4x512x4x512, .i1⟩
  | .hbm, ⟨26, _⟩ => ⟨S4x512x4x512, .f32⟩
  | .hbm, ⟨27, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call1_v0 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Proof.Protocol.lean ====
/-
# The protocol of the exchange

Four devices hold 512 rows of `x` each and every one multiplies its rows with the whole of `w`, a block of 512
columns at a time. The block for its own columns stays; the three others are quantised to eight bits and sent, the
bytes and their scale in separate transfers, into three LANDING SLOTS of the device they belong to. Slot `s` of a
device is written by exactly one other device, `source s`, and a device writes slot `s` of exactly one other device,
`peer s`: slot 0 goes one device on, slot 1 three devices on (one back), slot 2 two devices on.

Before its first transfer a device waits on the runtime's barrier semaphore for the three others. The unit device
`source s c` receives from `c` hands it `c`'s landing slot `s`, whatever it holds, so that from then on the sender
owns the memory its transfer writes. The landing's own unit hands the slot back, now at the sent contents. The cells
of the semaphores that only a device's own copies use (the fetch of `x`, of the blocks of `w`, the write-back of the
result's row blocks) are no part of the protocol.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.VecWindow
public import Idealize.ShloMosaic.Lib.Pipeline.Kit
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

/-- The protocol's ghost state: duties are named by slots. -/
abbrev UB : Type := URounds (GSem nD τ sig) (Fin 3)
/-- The pipeline's ghost state and the protocol's. -/
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

variable (m : (ℓ : Loc nD τ sig) → Buf (Elt F) ℓ) (ρ : Dev nD → PrngReg)

/-- The memory at launch: arbitrary contents, every semaphore at zero, arbitrary generator registers. -/
def s₀ : MemSt nD τ sig (Elt F) := ⟨m, fun _ => 0, ρ⟩

/-! ## Who writes whom -/

/-- How many devices on slot `s` travels. -/
def hop (s : Fin 3) : ℕ := if s = 0 then 1 else if s = 1 then 3 else 2

set_option backward.proofsInPublic true in
/-- The device whose slot `s` device `c` writes. -/
def peer (s : Fin 3) (c : Dev nD) : Dev nD := ⟨(c.val + hop s) % 4, Nat.mod_lt _ (by decide)⟩
set_option backward.proofsInPublic true in
/-- The device that writes slot `s` of device `c`. -/
def source (s : Fin 3) (c : Dev nD) : Dev nD := ⟨(c.val + (4 - hop s)) % 4, Nat.mod_lt _ (by decide)⟩

theorem source_peer (s : Fin 3) (c : Dev nD) : source s (peer s c) = c := by revert s c; decide
theorem peer_source (s : Fin 3) (c : Dev nD) : peer s (source s c) = c := by revert s c; decide

/-- Sending slot `s` is a permutation of the devices. -/
def route (s : Fin 3) : Dev nD ≃ Dev nD := ⟨peer s, source s, source_peer s, peer_source s⟩

/-- The three entry signals go to the devices that write slots 0, 1 and 2; -/
theorem dev1_eq (c : Dev nD) : (⟨k0_dev1 c, k0_dev1_lt c⟩ : Dev nD) = source 0 c := Fin.ext (k0_dev1_eq c)
theorem dev2_eq (c : Dev nD) : (⟨k0_dev2 c, k0_dev2_lt c⟩ : Dev nD) = source 1 c := Fin.ext (k0_dev2_eq c)
theorem dev3_eq (c : Dev nD) : (⟨k0_dev3 c, k0_dev3_lt c⟩ : Dev nD) = source 2 c := Fin.ext (k0_dev3_eq c)
/-- the transfers, bytes and scale, go to the device whose slot they write. -/
theorem dev4_eq (c : Dev nD) : (⟨k0_dev4 c, k0_dev4_lt c⟩ : Dev nD) = peer 2 c := Fin.ext (k0_dev4_eq c)
theorem dev5_eq (c : Dev nD) : (⟨k0_dev5 c, k0_dev5_lt c⟩ : Dev nD) = peer 2 c := Fin.ext (k0_dev5_eq c)
theorem dev6_eq (c : Dev nD) : (⟨k0_dev6 c, k0_dev6_lt c⟩ : Dev nD) = peer 0 c := Fin.ext (k0_dev6_eq c)
theorem dev7_eq (c : Dev nD) : (⟨k0_dev7 c, k0_dev7_lt c⟩ : Dev nD) = peer 0 c := Fin.ext (k0_dev7_eq c)
theorem dev8_eq (c : Dev nD) : (⟨k0_dev8 c, k0_dev8_lt c⟩ : Dev nD) = peer 1 c := Fin.ext (k0_dev8_eq c)
theorem dev9_eq (c : Dev nD) : (⟨k0_dev9 c, k0_dev9_lt c⟩ : Dev nD) = peer 1 c := Fin.ext (k0_dev9_eq c)

/-! ## Memory, by the pieces that move as one -/

/-- Slot `s` of a buffer of three byte blocks. -/
def slotB (M : Memref sig .tc .vmem S3x512x512 .i8) : Fin 3 → Memref sig .tc .vmem S512x512 .i8
  | 0 => (M.slice (Rect.unit (s := S3x512x512) ![0, 0, 0] S1x512x512.size inb_S3x512x512_S1x512x512_0_0_0) (fun _ => rfl)).squeeze S512x512 squeezes_S1x512x512_S512x512
  | 1 => (M.slice (Rect.unit (s := S3x512x512) ![1, 0, 0] S1x512x512.size inb_S3x512x512_S1x512x512_1_0_0) (fun _ => rfl)).squeeze S512x512 squeezes_S1x512x512_S512x512
  | 2 => (M.slice (Rect.unit (s := S3x512x512) ![2, 0, 0] S1x512x512.size inb_S3x512x512_S1x512x512_2_0_0) (fun _ => rfl)).squeeze S512x512 squeezes_S1x512x512_S512x512

/-- Slot `s` of a buffer of three scales. -/
def slotS (M : Memref sig .tc .vmem S3x8x128 .f32) : Fin 3 → Memref sig .tc .vmem S8x128 .f32
  | 0 => (M.slice (Rect.unit (s := S3x8x128) ![0, 0, 0] S1x8x128.size inb_S3x8x128_S1x8x128_0_0_0) (fun _ => rfl)).squeeze S8x128 squeezes_S1x8x128_S8x128
  | 1 => (M.slice (Rect.unit (s := S3x8x128) ![1, 0, 0] S1x8x128.size inb_S3x8x128_S1x8x128_1_0_0) (fun _ => rfl)).squeeze S8x128 squeezes_S1x8x128_S8x128
  | 2 => (M.slice (Rect.unit (s := S3x8x128) ![2, 0, 0] S1x8x128.size inb_S3x8x128_S1x8x128_2_0_0) (fun _ => rfl)).squeeze S8x128 squeezes_S1x8x128_S8x128

abbrev xA : Memref sig .tc .hbm S512x2048 .f32 := Memref.whole main_arg0
abbrev wA : Memref sig .tc .hbm S2048x2048 .f32 := Memref.whole main_arg1
abbrev oA : Memref sig .tc .hbm S2048x512 .f32 := Memref.whole main_v1
abbrev xM : Memref sig .tc .vmem S512x2048 .f32 := Memref.whole cc0_scratch0
abbrev wM : Memref sig .tc .vmem S2x2048x512 .f32 := Memref.whole cc0_scratch1
abbrev stM : Memref sig .tc .vmem S4x512x512 .f32 := Memref.whole cc0_scratch2
abbrev sndM : Memref sig .tc .vmem S3x512x512 .i8 := Memref.whole cc0_scratch3
abbrev rcvM : Memref sig .tc .vmem S3x512x512 .i8 := Memref.whole cc0_scratch4
abbrev ssM : Memref sig .tc .vmem S3x8x128 .f32 := Memref.whole cc0_scratch5
abbrev srM : Memref sig .tc .vmem S3x8x128 .f32 := Memref.whole cc0_scratch6

/-- Device `c` holds all the elements a view names, at contents `f`. -/
abbrev pts {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f

/-- Device `c` holds all the elements a view names, and they read `v`. -/
abbrev at_ {sp : Space} {s : Shape} {e : EltTy} (M : Memref sig .tc sp s e) (c : Dev nD) (v : s.Idx → Elt F e) : sProp 𝕄 :=
  pts M c (M.view.rep v)

/-! ## The semaphores -/

/-- The runtime's barrier semaphore. -/
abbrev barS : Sem sig := (SemArray.scalar (sig.barrier 0 rfl) : Sems sig S_).sem

set_option backward.proofsInPublic true in
/-- The semaphores a device's sends are counted on: block `s` on `s`, its scale on `s + 3`; -/
def sendS (k : Fin 6) : DmaSem sig := ⟨9 + k.val, by show _ < 21; omega⟩
set_option backward.proofsInPublic true in
/-- the ones the landings are counted on, in the same order. -/
def recvS (k : Fin 6) : DmaSem sig := ⟨15 + k.val, by show _ < 21; omega⟩

set_option backward.proofsInPublic true in
/-- The place of a block and of its scale among a device's six sends or landings. -/
def lo (s : Fin 3) : Fin 6 := ⟨s.val, by omega⟩
set_option backward.proofsInPublic true in
def hi (s : Fin 3) : Fin 6 := ⟨s.val + 3, by omega⟩

abbrev barCell (c : Dev nD) : GSem nD τ sig := ((c : Thread nD τ), .reg barS)
abbrev sendCell (c : Dev nD) (k : Fin 6) : GSem nD τ sig := ((c : Thread nD τ), .dma (sendS k))
abbrev recvCell (c : Dev nD) (k : Fin 6) : GSem nD τ sig := ((c : Thread nD τ), .dma (recvS k))

/-- The units a block's transfer and a scale's transfer are counted by. -/
abbrev NB : ℕ := (slotB rcvM 0).view.dmaCredit
abbrev NS : ℕ := (slotS srM 0).view.dmaCredit
theorem NB_pos : 0 < NB := View.dmaCredit_pos _ (by decide)
theorem NS_pos : 0 < NS := View.dmaCredit_pos _ (by decide)

/-- The units of transfer `k` among a device's six. -/
def credit (k : Fin 6) : ℕ := if k.val < 3 then NB else NS
theorem credit_pos (k : Fin 6) : 0 < credit k := by unfold credit; split; exacts [NB_pos, NS_pos]
theorem credit_lo (s : Fin 3) : credit (lo s) = NB := if_pos s.isLt
theorem credit_hi (s : Fin 3) : credit (hi s) = NS := if_neg (by simp [hi])

/-! ## Contents -/

/-- Device `c`'s rows of `x`. -/
def xv (c : Dev nD) : S512x2048.Idx → Elt F .f32 := xA.view.read (Elt F) (m ((c : Thread nD τ).loc main_arg0))

/-- The upper and the lower half of the columns of `w` that belong to the device `r` on from `c`. -/
def wUp (c : Dev nD) (r : Fin 4) : S1024x512.Idx → Elt F .f32 :=
  (wA.slice (Rect.unit (s := S2048x2048) (k0_off1 c (BitVec.ofNat 32 r.val)) S1024x512.size (k0_off1_inb c r)) (fun _ => rfl)).view.read (Elt F) (m ((c : Thread nD τ).loc main_arg1))
def wDn (c : Dev nD) (r : Fin 4) : S1024x512.Idx → Elt F .f32 :=
  (wA.slice (Rect.unit (s := S2048x2048) (k0_off2 c (BitVec.ofNat 32 r.val)) S1024x512.size (k0_off2_inb c r)) (fun _ => rfl)).view.read (Elt F) (m ((c : Thread nD τ).loc main_arg1))

theorem casts_half : S1024x512.ShapeCasts S1x1024x512 := by decide

/-- The halves as the kernel loads them. -/
def wUp' (c : Dev nD) (r : Fin 4) : Vec F S1x1024x512 .f32 := shapeCast S1x1024x512 (wUp m c r) casts_half
def wDn' (c : Dev nD) (r : Fin 4) : Vec F S1x1024x512 .f32 := shapeCast S1x1024x512 (wDn m c r) casts_half

/-- The bytes device `c` stores into its send slot `s`, and the scale beside them. -/
def blkB (c : Dev nD) : Fin 3 → Vec F S1x512x512 .i8
  | 0 => k0_pay10 (k0_pay9 (k0_pay1 (xv m c)) (wUp' m c 1) (wDn' m c 1))
  | 1 => k0_pay15 (k0_pay1 (xv m c)) (k0_pay12 (wUp' m c 3)) (wDn' m c 3)
  | 2 => k0_pay5 (k0_pay2 (k0_pay1 (xv m c)) (wUp' m c 2) (wDn' m c 2)) (k0_pay3 (k0_pay1 (xv m c)) (wUp' m c 2) (wDn' m c 2))
def blkS (c : Dev nD) : Fin 3 → Vec F S1x8x128 .f32
  | 0 => k0_pay11 (k0_pay8 (k0_pay1 (xv m c)) (wUp' m c 1) (wDn' m c 1))
  | 1 => k0_pay17 (k0_pay16 (k0_pay1 (xv m c)) (k0_pay12 (wUp' m c 3)) (wDn' m c 3))
  | 2 => k0_pay6 (k0_pay3 (k0_pay1 (xv m c)) (wUp' m c 2) (wDn' m c 2))

/-- The same as the slots they lie in are read. -/
def sentB (c : Dev nD) (s : Fin 3) : S512x512.Idx → Elt F .i8 := shapeCast S512x512 (blkB m c s) shapeCasts_S1x512x512_S512x512
def sentS (c : Dev nD) (s : Fin 3) : S8x128.Idx → Elt F .f32 := shapeCast S8x128 (blkS m c s) shapeCasts_S1x8x128_S8x128

/-! ## The schedule -/

/-- What device `d` receives with the entry unit of the device whose slot `s` it writes: that slot, whatever it holds. -/
def barPay (d : Dev nD) (s : Fin 3) : sProp 𝕄 :=
  iprop((∃ f, pts (slotB rcvM s) (peer s d) f) ∗ (∃ f, pts (slotS srM s) (peer s d) f))
set_option backward.proofsInPublic true in
/-- The slot of a scale's transfer. -/
def past (k : Fin 6) : Fin 3 := ⟨k.val - 3, by omega⟩
set_option backward.proofsInPublic true in
/-- What landing `k` hands its device: the slot at what the device that writes it sent. -/
def recvPay (c : Dev nD) (k : Fin 6) : sProp 𝕄 :=
  if h : k.val < 3 then at_ (slotB rcvM ⟨k.val, h⟩) c (sentB m (source ⟨k.val, h⟩ c) ⟨k.val, h⟩)
  else at_ (slotS srM (past k)) c (sentS m (source (past k) c) (past k))
set_option backward.proofsInPublic true in
/-- What the departure of transfer `k` hands back: the memory it was sent from. -/
def sendPay (c : Dev nD) (k : Fin 6) : sProp 𝕄 :=
  if h : k.val < 3 then iprop(∃ f, pts (slotB sndM ⟨k.val, h⟩) c f) else iprop(∃ f, pts (slotS ssM (past k)) c f)

omit [FloatOps F] in
instance barPay_storable (d : Dev nD) (s : Fin 3) : BI.Storable (upEmb : UEmb _ 𝕄) (barPay (F := F) d s) := by
  unfold barPay; infer_instance
instance recvPay_storable (c : Dev nD) (k : Fin 6) : BI.Storable (upEmb : UEmb _ 𝕄) (recvPay (F := F) m c k) := by
  unfold recvPay; split <;> infer_instance
omit [FloatOps F] in
instance sendPay_storable (c : Dev nD) (k : Fin 6) : BI.Storable (upEmb : UEmb _ 𝕄) (sendPay (F := F) c k) := by
  unfold sendPay; split <;> infer_instance

set_option backward.proofsInPublic true in
/-- Which of a device's six sends, or six landings, is counted on a DMA semaphore. -/
def ix (q : DmaSem sig) : Fin 6 := ⟨(q.val - 9) % 6, Nat.mod_lt _ (by decide)⟩
theorem ix_send (k : Fin 6) : ix (sendS k) = k := by revert k; decide
theorem ix_recv (k : Fin 6) : ix (recvS k) = k := by revert k; decide

/-- One round each: a barrier cell has three duties of one unit, one per slot; a send or landing cell one duty of the
    transfer's units. -/
def exRd : Rounds.Schedule (GSem nD τ sig) (Fin 3) 𝕄 where
  duties g r := if r = 0 ∧ g.1.2 = .tc then (match g.2 with
    | .reg b => if b = barS then Finset.univ else ∅
    | .dma q => if 9 ≤ q.val then {0} else ∅) else ∅
  unitless _ := False
  amount g _ _ := match g.2 with
    | .reg _ => 1
    | .dma q => credit (ix q)
  payload g _ d := match g.2 with
    | .reg _ => barPay g.1.1 d
    | .dma q => if 15 ≤ q.val then recvPay m g.1.1 (ix q) else sendPay g.1.1 (ix q)
  amount_pos g _ _ _ := by
    obtain ⟨t, sm⟩ := g
    cases sm with
    | reg b => exact Nat.one_pos
    | dma q => exact credit_pos _

instance exRd_payload_storable (g : GSem nD τ sig) (r : ℕ) (d : Fin 3) :
    BI.Storable (upEmb : UEmb _ 𝕄) ((exRd (F := F) m).payload g r d) := by
  obtain ⟨t, sm⟩ := g
  cases sm with
  | reg b => exact barPay_storable _ _
  | dma q =>
    show BI.Storable upEmb (if 15 ≤ q.val then recvPay m t.1 (ix q) else sendPay t.1 (ix q))
    split <;> infer_instance

section Tables
variable (c : Dev nD) (k : Fin 6) (d : Fin 3)

theorem duties_bar : (exRd (F := F) m).duties (barCell c) 0 = Finset.univ := by
  dsimp only [exRd]; rw [if_pos ⟨rfl, rfl⟩, if_pos rfl]
theorem duties_send : (exRd (F := F) m).duties (sendCell c k) 0 = {0} := by
  dsimp only [exRd]; rw [if_pos ⟨rfl, rfl⟩, if_pos (by show 9 ≤ 9 + k.val; omega)]
theorem duties_recv : (exRd (F := F) m).duties (recvCell c k) 0 = {0} := by
  dsimp only [exRd]; rw [if_pos ⟨rfl, rfl⟩, if_pos (by show 9 ≤ 15 + k.val; omega)]
theorem duties_later (g : GSem nD τ sig) : ∀ r, 1 ≤ r → (exRd (F := F) m).duties g r = ∅ :=
  fun r hr => by dsimp only [exRd]; rw [if_neg fun h => by omega]

theorem amount_bar : (exRd (F := F) m).amount (barCell c) 0 d = 1 := rfl
theorem amount_send : (exRd (F := F) m).amount (sendCell c k) 0 d = credit k := by
  show credit (ix (sendS k)) = _; rw [ix_send]
theorem amount_recv : (exRd (F := F) m).amount (recvCell c k) 0 d = credit k := by
  show credit (ix (recvS k)) = _; rw [ix_recv]

theorem expect_bar : (exRd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (exRd (F := F) m).expect (sendCell c k) 0 = credit k := by
  unfold Schedule.expect Schedule.amountOf; rw [duties_send, Finset.sum_singleton, amount_send]
theorem expect_recv : (exRd (F := F) m).expect (recvCell c k) 0 = credit k := by
  unfold Schedule.expect Schedule.amountOf; rw [duties_recv, Finset.sum_singleton, amount_recv]

theorem payload_bar : (exRd (F := F) m).payload (barCell c) 0 d = barPay c d := rfl
theorem payload_send : (exRd (F := F) m).payload (sendCell c k) 0 d = sendPay c k := by
  show (if 15 ≤ 9 + k.val then _ else sendPay c (ix (sendS k))) = _
  rw [if_neg (by omega), ix_send]
theorem payload_recv : (exRd (F := F) m).payload (recvCell c k) 0 d = recvPay m c k := by
  show (if 15 ≤ 15 + k.val then recvPay m c (ix (recvS k)) else _) = _
  rw [if_pos (by omega), ix_recv]

theorem recvPay_lo (s : Fin 3) : recvPay m c (lo s) = at_ (slotB rcvM s) c (sentB m (source s c) s) := dif_pos s.isLt
theorem recvPay_hi (s : Fin 3) : recvPay m c (hi s) = at_ (slotS srM s) c (sentS m (source s c) s) := by
  revert s; intro s; fin_cases s <;> rfl
theorem sendPay_lo (s : Fin 3) : (sendPay c (lo s) : sProp 𝕄) = iprop(∃ f, pts (slotB sndM s) c f) := dif_pos s.isLt
theorem sendPay_hi (s : Fin 3) : (sendPay c (hi s) : sProp 𝕄) = iprop(∃ f, pts (slotS ssM s) c f) := by
  revert s; intro s; fin_cases s <;> rfl

/-- The rest of a cell's round, no duty taken: the payloads of all its duties. -/
theorem rest_bar : bigSep ((exRd (F := F) m).duties (barCell c) 0 \ ∅) (fun d => (exRd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send : bigSep ((exRd (F := F) m).duties (sendCell c k) 0 \ ∅) (fun d => (exRd (F := F) m).payload (sendCell c k) 0 d) = sendPay c k := by
  rw [Finset.sdiff_empty, duties_send, bigSep_singleton, payload_send]
theorem rest_recv : bigSep ((exRd (F := F) m).duties (recvCell c k) 0 \ ∅) (fun d => (exRd (F := F) m).payload (recvCell c k) 0 d) = recvPay m c k := by
  rw [Finset.sdiff_empty, duties_recv, bigSep_singleton, payload_recv]

end Tables

/-! ## What a device owes, and the order cells are waited on in -/

/-- Whom device `c` pays and how much, from the last payment to the first: its six transfers, then its three entry
    signals. -/
def payee (c : Dev nD) : ℕ → GSem nD τ sig × ℕ
  | 0 => (recvCell (peer 1 c) (hi 1), NS)
  | 1 => (recvCell (peer 1 c) (lo 1), NB)
  | 2 => (recvCell (peer 0 c) (hi 0), NS)
  | 3 => (recvCell (peer 0 c) (lo 0), NB)
  | 4 => (recvCell (peer 2 c) (hi 2), NS)
  | 5 => (recvCell (peer 2 c) (lo 2), NB)
  | 6 => (barCell (source 2 c), 1)
  | 7 => (barCell (source 1 c), 1)
  | _ => (barCell (source 0 c), 1)

/-- What device `c` still owes with `n` payments to go. -/
def owed (c : Dev nD) : ℕ → CellTallies nD τ sig Unit
  | 0 => 0
  | n + 1 => owed c n + tallyAt (payee c n).1 () (payee c n).2

theorem owed_succ {c : Dev nD} {n : ℕ} {p : GSem nD τ sig × ℕ} (h : payee c n = p) :
    owed c (n + 1) = owed c n + tallyAt p.1 () p.2 := by subst h; rfl

/-- What device `c` owes at launch. -/
def O₀ (c : Dev nD) : CellTallies nD τ sig Unit := owed c 9

def L (g : GSem nD τ sig) : Finset Unit := if g.1.2 = .tc then {()} else ∅
/-- Barrier cells at 1, landing cells at 2, everything else at 0. -/
def lv (g : GSem nD τ sig) (_ : Unit) : ℕ := match g.2 with
  | .reg _ => 1
  | .dma q => if 15 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- A debt is to one of the payees still to come. -/
theorem owed_pos {c : Dev nD} {n : ℕ} {g : GSem nD τ sig} {u : Unit} (h : 0 < owed c n g u) : ∃ i < n, g = (payee c i).1 := by
  induction n with
  | zero => exact absurd h (Nat.lt_irrefl 0)
  | succ n ih =>
    unfold owed at h
    rw [Pi.add_apply, Finsupp.add_apply, tallyAt_apply] at h
    by_cases hg : g = (payee c n).1
    · exact ⟨n, Nat.lt_succ_self n, hg⟩
    · rw [if_neg fun h' => hg h'.1] at h
      obtain ⟨i, hi, e⟩ := ih h
      exact ⟨i, Nat.lt_succ_of_lt hi, e⟩

theorem payee_tc (c : Dev nD) (i : ℕ) : (payee c i).1.1.2 = .tc := by
  rcases i with _ | _ | _ | _ | _ | _ | _ | _ | i <;> rfl
theorem lv_recv (c : Dev nD) (k : Fin 6) (u : Unit) : lv (recvCell c k) u = 2 := by
  show (if 15 ≤ 15 + k.val then 2 else 0) = 2; rw [if_pos (by omega)]
theorem lv_payee_pos (c : Dev nD) (i : ℕ) : 0 < lv (payee c i).1 () := by
  rcases i with _ | _ | _ | _ | _ | _ | _ | _ | i <;>
    first | exact Nat.lt_of_lt_of_eq (by decide : 0 < 2) (lv_recv _ _ _).symm | exact Nat.one_pos
theorem lv_payee_six (c : Dev nD) (i : ℕ) (h : i < 6) : 1 < lv (payee c i).1 () := by
  rcases i with _ | _ | _ | _ | _ | _ | i <;>
    first | exact Nat.lt_of_lt_of_eq (by decide : 1 < 2) (lv_recv _ _ _).symm | (exfalso; omega)

/-- A cell below 15 may be waited on whatever is owed: every debt is to a barrier or landing cell, above it. -/
theorem mayWait_low (c : Dev nD) (q : DmaSem sig) (hq : q.val < 15) (n : ℕ) :
    (levAts L lv : sProp 𝕄) ⊢ MayWait (c : Thread nD τ) (.dma q) () (owed c n) :=
  MayOwe.of_cut (L := L) (lev := lv) 0 (fun p hp => by rw [Finset.mem_singleton.mp hp, L_tc]; exact Finset.mem_singleton_self _)
    (fun g u hg => by obtain ⟨i, -, rfl⟩ := owed_pos hg; unfold L; rw [if_pos (payee_tc c i)]; exact Finset.mem_singleton_self _)
    (fun p hp => by rw [Finset.mem_singleton.mp hp]; show (if 15 ≤ q.val then 2 else 0) ≤ 0; rw [if_neg (by omega)])
    (fun g u hg => by obtain ⟨i, -, rfl⟩ := owed_pos hg; exact lv_payee_pos c i)

/-- At its barrier wait a device owes landings only. -/
theorem mayWait_bar (c : Dev nD) : (levAts L lv : sProp 𝕄) ⊢ MayWait (c : Thread nD τ) (.reg barS) () (owed c 6) :=
  MayOwe.of_cut (L := L) (lev := lv) 1 (fun p hp => by rw [Finset.mem_singleton.mp hp, L_tc]; exact Finset.mem_singleton_self _)
    (fun g u hg => by obtain ⟨i, -, rfl⟩ := owed_pos hg; unfold L; rw [if_pos (payee_tc c i)]; exact Finset.mem_singleton_self _)
    (fun p hp => by rw [Finset.mem_singleton.mp hp]; exact Nat.le_refl 1)
    (fun g u hg => by obtain ⟨i, hi, rfl⟩ := owed_pos hg; exact lv_payee_six c i hi)

/-! ## The cells, all of them -/

set_option backward.proofsInPublic true in
/-- The protocol's semaphores on a device: the barrier's, the six sends', the six landings'. -/
def csem (i : Fin 13) : SemLoc sig := if i.val = 0 then .reg barS else .dma ⟨8 + i.val, by show _ < 21; omega⟩
abbrev kcell (ci : Dev nD × Fin 13) : GSem nD τ sig := ((ci.1 : Thread nD τ), csem ci.2)

set_option backward.proofsInPublic true in
def iSend (k : Fin 6) : Fin 13 := ⟨1 + k.val, by omega⟩
set_option backward.proofsInPublic true in
def iRecv (k : Fin 6) : Fin 13 := ⟨7 + k.val, by omega⟩
theorem csem_bar : csem 0 = .reg barS := rfl
theorem csem_send (k : Fin 6) : csem (iSend k) = .dma (sendS k) := by revert k; decide
theorem csem_recv (k : Fin 6) : csem (iRecv k) = .dma (recvS k) := by revert k; decide

/-- Every cell's invariant, under the names `K` the launch allocated, and that every cell is at its first round. -/
def records (K : Dev nD × Fin 13 → ℕ) : sProp 𝕄 :=
  bigSep Finset.univ fun ci => iprop(cellInv ER (exRd m) (K ci) (kcell ci) ∗ reached ER (kcell ci) 0)

instance records_persistent (K : Dev nD × Fin 13 → ℕ) : BI.Persistent (records m K) := by unfold records; infer_instance

theorem record_at (K : Dev nD × Fin 13 → ℕ) (ci : Dev nD × Fin 13) :
    records m K ⊢ iprop(cellInv ER (exRd m) (K ci) (kcell ci) ∗ reached ER (kcell ci) 0) := bigSep_elim (Finset.mem_univ ci)
theorem record_bar (K : Dev nD × Fin 13 → ℕ) (c : Dev nD) :
    records m K ⊢ iprop(cellInv ER (exRd m) (K (c, 0)) (barCell c) ∗ reached ER (barCell c) 0) := record_at m K (c, 0)
theorem record_send (K : Dev nD × Fin 13 → ℕ) (c : Dev nD) (k : Fin 6) :
    records m K ⊢ iprop(cellInv ER (exRd m) (K (c, iSend k)) (sendCell c k) ∗ reached ER (sendCell c k) 0) := by
  have h := record_at m K (c, iSend k); unfold kcell at h; rw [csem_send] at h; exact h
theorem record_recv (K : Dev nD × Fin 13 → ℕ) (c : Dev nD) (k : Fin 6) :
    records m K ⊢ iprop(cellInv ER (exRd m) (K (c, iRecv k)) (recvCell c k) ∗ reached ER (recvCell c k) 0) := by
  have h := record_at m K (c, iRecv k); unfold kcell at h; rw [csem_recv] at h; exact h

end Cert.Exchange
-- ==== Proof.Steps.lean ====
/-
# One step of the protocol each

The five kinds of step a device takes towards another device — the entry signal, the wait for the three entry signals,
a block's or a scale's departure, a landing, a departure's completion — as rules over the program's operation: what the
device hands in before it and what it holds after it. The program's own spelling of a memory view, a semaphore or a
device is matched by an equation, so one rule serves all three slots.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

variable (K : Dev nD × Fin 13 → ℕ) {c : Dev nD} {α : Type} {k : PUnit → Prog (TpuEff nD τ sig (Elt F) Λ₀ .tc) α} {Q : α → sProp (MT nD τ sig Unit (Elt F) ℕ UU ℕ)}
  {W : Waits sig Unit}

/-- The entry signal to the device that writes slot `s` of `c` hands it that slot. -/
theorem step_enter (s : Fin 3) (n : ℕ) (hp : payee c n = (barCell (source s c), 1)) {d : Dev nD} (hd : d = source s c) :
    iprop(records m K ∗ owes (c : Thread nD τ) (owed c (n + 1)) W ∗ dutyTok ER (barCell (source s c)) 0 s
        ∗ (∃ f, pts (slotB rcvM s) c f) ∗ (∃ f, pts (slotS srM s) c f))
      ⊢ iprop((owes (c : Thread nD τ) (owed c n) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) barS 1) k) Q) := by
  subst hd
  iintro ⟨#Hrec, HO, Ht, HB, HS⟩
  ihave ⟨#HI, #Hr⟩ := (record_bar m K (source s c)) $$ Hrec
  iapply (Rounds.wp_signal 𝒱₀ ER (exRd m) (c : Thread nD τ) none (dst := (source s c : Thread nD τ)) (κ := K (source s c, 0))
      (d := s) (by rw [duties_bar]; exact Finset.mem_univ _) (amount_bar m (source s c) s) () (owed c n) (owed_succ hp))
  isplitr; · iexact HI
  isplitl [HO]; · iexact HO
  isplitl [Ht]; · iexact Ht
  isplitl [HB HS]
  · rw [payload_bar]; unfold barPay; rw [peer_source]
    isplitl [HB] <;> iassumption
  iexact Hr

/-- The wait for the three entry signals: the three slots device `c` writes are its own to write. -/
theorem step_gather :
    iprop(records m K ∗ levAts L lv ∗ cred (tallyAt (barCell c) () 3) ∗ owes (c : Thread nD τ) (owed c 6) W ∗ atPos ER (barCell c) 0 ∅ 0)
      ⊢ iprop(((owes (c : Thread nD τ) (owed c 6) (insert (SemLoc.reg barS, ()) W) ∗ atPos ER (barCell c) 1 ∅ 0
              ∗ barPay c 0 ∗ barPay c 1 ∗ barPay c 2) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 3) k) Q) := by
  iintro ⟨#Hrec, #Hlev, Hc, HO, Hat⟩ Hk
  ihave ⟨#HI, #Hr⟩ := (record_bar m K c) $$ Hrec
  iapply (Rounds.wp_wait_rest_token 𝒱₀ ER (exRd m) (c : Thread nD τ) none (κ := K (c, 0))
      (wpE_semWait_eq 𝒱₀ (c : Thread nD τ) none Set.univ) (Set.mem_univ _) () (O := owed c 6) (W := W) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

theorem amountB (s : Fin 3) (q : DmaSem sig) : (slotB rcvM s).view.amount (.dma q) = NB := by fin_cases s <;> rfl
theorem amountS (s : Fin 3) (q : DmaSem sig) : (slotS srM s).view.amount (.dma q) = NS := by fin_cases s <;> rfl

/-- The departure of a block: the send slot at the bytes device `c` owes slot `s` of its peer, and that slot, whatever
    it holds, against the units to wait with for the send slot. -/
theorem step_sendB (s : Fin 3) (n : ℕ) (hp : payee c n = (recvCell (peer s c) (lo s), NB)) {d : Dev nD} (hd : d = peer s c)
    {src dst : Memref sig .tc .vmem S512x512 .i8} (hs : src = slotB sndM s) (hr : dst = slotB rcvM s)
    {qs qr : DmaSem sig} (hqs : qs = sendS (lo s)) (hqr : qr = recvS (lo s))
    {h₁ : (dst : Memref sig (Dev.tc d : Thread nD τ).2.kind .vmem S512x512 .i8).view.ref.isScScratch = false} {h₂ h₃}
    {h₄ : DmaTarget.Typed .vmem (.dma qr) (.remote (Dev.tc d : Thread nD τ) dst (.dma qs) h₁)}
    {fs : Buf (Elt F) ((slotB sndM s).view.loc (c : Thread nD τ))} (hf : (slotB sndM s).view.read (Elt F) fs = sentB m c s) :
    iprop(records m K ∗ owes (c : Thread nD τ) (owed c (n + 1)) W ∗ pts (slotB sndM s) c fs ∗ (∃ f, pts (slotB rcvM s) (peer s c) f)
        ∗ dutyTok ER (sendCell c (lo s)) 0 0 ∗ dutyTok ER (recvCell (peer s c) (lo s)) 0 0)
      ⊢ iprop(((cred (tallyAt (sendCell c (lo s)) () NB) ∗ owes (c : Thread nD τ) (owed c n) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc d : Thread nD τ) dst (.dma qs) h₁) (.dma qr) h₂ h₃ h₄) k) Q) := by
  subst hd hs hr hqs hqr
  iintro ⟨#Hrec, HO, Hs, ⟨%fd, Hd⟩, Ht₁, Ht₂⟩
  ihave ⟨#HI₁, #Hr₁⟩ := (record_send m K c (lo s)) $$ Hrec
  ihave ⟨#HI₂, #Hr₂⟩ := (record_recv m K (peer s c) (lo s)) $$ Hrec
  iapply (Rounds.wp_send_pointsTo 𝒱₀ ER (exRd m) (c : Thread nD τ) none (κ₁ := K (c, iSend (lo s))) (κ₂ := K (peer s c, iRecv (lo s)))
    (r₁ := 0) (r₂ := 0) (d₁ := 0) (d₂ := 0) (fd := fd)
    (by rw [duties_send]; exact Finset.mem_singleton_self _) (by rw [duties_recv]; exact Finset.mem_singleton_self _)
    () () NB (amountB s _) ((amount_send m c _ 0).trans (credit_lo s)) ((amount_recv m (peer s c) _ 0).trans (credit_lo s))
    (owed c n) (owed_succ hp) (W := W)
    (by rw [payload_send, sendPay_lo]; iintro H; iexists fs; iexact H)
    (by rw [payload_recv, recvPay_lo, source_peer]
        exact pointsTo_rep_of_read (peer s c : Thread nD τ) (slotB rcvM s) _ fullShare _ ((View.read_write_univ ..).trans hf)))
  isplitr; · iexact HI₁
  isplitr; · iexact HI₂
  isplitl [Hs]; · iexact Hs
  isplitl [Hd]; · iexact Hd
  isplitl [HO]; · iexact HO
  isplitl [Ht₁]; · iexact Ht₁
  isplitr; · iexact Hr₁
  isplitl [Ht₂]; · iexact Ht₂
  iexact Hr₂

/-- The departure of a scale, likewise. -/
theorem step_sendS (s : Fin 3) (n : ℕ) (hp : payee c n = (recvCell (peer s c) (hi s), NS)) {d : Dev nD} (hd : d = peer s c)
    {src dst : Memref sig .tc .vmem S8x128 .f32} (hs : src = slotS ssM s) (hr : dst = slotS srM s)
    {qs qr : DmaSem sig} (hqs : qs = sendS (hi s)) (hqr : qr = recvS (hi s))
    {h₁ : (dst : Memref sig (Dev.tc d : Thread nD τ).2.kind .vmem S8x128 .f32).view.ref.isScScratch = false} {h₂ h₃}
    {h₄ : DmaTarget.Typed .vmem (.dma qr) (.remote (Dev.tc d : Thread nD τ) dst (.dma qs) h₁)}
    {fs : Buf (Elt F) ((slotS ssM s).view.loc (c : Thread nD τ))} (hf : (slotS ssM s).view.read (Elt F) fs = sentS m c s) :
    iprop(records m K ∗ owes (c : Thread nD τ) (owed c (n + 1)) W ∗ pts (slotS ssM s) c fs ∗ (∃ f, pts (slotS srM s) (peer s c) f)
        ∗ dutyTok ER (sendCell c (hi s)) 0 0 ∗ dutyTok ER (recvCell (peer s c) (hi s)) 0 0)
      ⊢ iprop(((cred (tallyAt (sendCell c (hi s)) () NS) ∗ owes (c : Thread nD τ) (owed c n) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.remote (Dev.tc d : Thread nD τ) dst (.dma qs) h₁) (.dma qr) h₂ h₃ h₄) k) Q) := by
  subst hd hs hr hqs hqr
  iintro ⟨#Hrec, HO, Hs, ⟨%fd, Hd⟩, Ht₁, Ht₂⟩
  ihave ⟨#HI₁, #Hr₁⟩ := (record_send m K c (hi s)) $$ Hrec
  ihave ⟨#HI₂, #Hr₂⟩ := (record_recv m K (peer s c) (hi s)) $$ Hrec
  iapply (Rounds.wp_send_pointsTo 𝒱₀ ER (exRd m) (c : Thread nD τ) none (κ₁ := K (c, iSend (hi s))) (κ₂ := K (peer s c, iRecv (hi s)))
    (r₁ := 0) (r₂ := 0) (d₁ := 0) (d₂ := 0) (fd := fd)
    (by rw [duties_send]; exact Finset.mem_singleton_self _) (by rw [duties_recv]; exact Finset.mem_singleton_self _)
    () () NS (amountS s _) ((amount_send m c _ 0).trans (credit_hi s)) ((amount_recv m (peer s c) _ 0).trans (credit_hi s))
    (owed c n) (owed_succ hp) (W := W)
    (by rw [payload_send, sendPay_hi]; iintro H; iexists fs; iexact H)
    (by rw [payload_recv, recvPay_hi, source_peer]
        exact pointsTo_rep_of_read (peer s c : Thread nD τ) (slotS srM s) _ fullShare _ ((View.read_write_univ ..).trans hf)))
  isplitr; · iexact HI₁
  isplitr; · iexact HI₂
  isplitl [Hs]; · iexact Hs
  isplitl [Hd]; · iexact Hd
  isplitl [HO]; · iexact HO
  isplitl [Ht₁]; · iexact Ht₁
  isplitr; · iexact Hr₁
  isplitl [Ht₂]; · iexact Ht₂
  iexact Hr₂

/-- A landing waited for: the slot, at what the device that writes it sent. -/
theorem step_land (j : Fin 6) {sp sp' : Space} {s s' : Shape} {e e' : EltTy} {q : DmaSem sig} (hq : q = recvS j)
    {src : Memref sig .tc sp s e} {dst : Memref sig .tc sp' s' e'} (hN : dst.view.dmaCredit = credit j) {h₁ h₂} :
    iprop(records m K ∗ cred (tallyAt (recvCell c j) () (credit j)) ∗ owes (c : Thread nD τ) (owed c 0) W ∗ atPos ER (recvCell c j) 0 ∅ 0)
      ⊢ iprop(((owes (c : Thread nD τ) (owed c 0) (insert (SemLoc.dma (recvS j), ()) W) ∗ atPos ER (recvCell c j) 1 ∅ 0 ∗ recvPay m c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h₁ h₂) k) Q) := by
  subst hq
  iintro ⟨#Hrec, Hc, HO, Hat⟩ Hk
  ihave ⟨#HI, #Hr⟩ := (record_recv m K c j) $$ Hrec
  iapply (Rounds.wp_wait_rest_token 𝒱₀ ER (exRd m) (c : Thread nD τ) none (κ := K (c, iRecv j))
      (wpE_waitDma2_eq 𝒱₀ (c : Thread nD τ) none Set.univ) (Set.mem_univ _) () (O := owed c 0) (W := W) (R := 0) (m := 0) (T := ∅)
      (by rw [expect_recv, Nat.zero_add, hN])) $$ [Hc HO Hat]
  · isplitr; · iexact HI
    isplitl [Hc]; · rw [hN]; iexact Hc
    isplitl [HO]; · iexact HO
    isplitr; · rw [owed, MayWait_zero]; iempintro
    iexact Hat
  iintro ⟨HO, Hat, -, Hpay⟩
  ihave Hp := (Entails.of_eq (rest_recv m c j)) $$ Hpay
  iapply Hk
  isplitl [HO]; · iexact HO
  isplitl [Hat] <;> iassumption

/-- A departure waited for: the send slot is back. -/
theorem step_left (j : Fin 6) {sp sp' : Space} {s s' : Shape} {e e' : EltTy} {q : DmaSem sig} (hq : q = sendS j)
    {src : Memref sig .tc sp s e} {dst : Memref sig .tc sp' s' e'} (hN : dst.view.dmaCredit = credit j) {h₁ h₂} :
    iprop(records m K ∗ cred (tallyAt (sendCell c j) () (credit j)) ∗ owes (c : Thread nD τ) (owed c 0) W ∗ atPos ER (sendCell c j) 0 ∅ 0)
      ⊢ iprop(((owes (c : Thread nD τ) (owed c 0) (insert (SemLoc.dma (sendS j), ()) W) ∗ atPos ER (sendCell c j) 1 ∅ 0 ∗ sendPay c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst h₁ h₂) k) Q) := by
  subst hq
  iintro ⟨#Hrec, Hc, HO, Hat⟩ Hk
  ihave ⟨#HI, #Hr⟩ := (record_send m K c j) $$ Hrec
  iapply (Rounds.wp_wait_rest_token 𝒱₀ ER (exRd m) (c : Thread nD τ) none (κ := K (c, iSend j))
      (wpE_waitDma2_eq 𝒱₀ (c : Thread nD τ) none Set.univ) (Set.mem_univ _) () (O := owed c 0) (W := W) (R := 0) (m := 0) (T := ∅)
      (by rw [expect_send, Nat.zero_add, hN])) $$ [Hc HO Hat]
  · isplitr; · iexact HI
    isplitl [Hc]; · rw [hN]; iexact Hc
    isplitl [HO]; · iexact HO
    isplitr; · rw [owed, MayWait_zero]; iempintro
    iexact Hat
  iintro ⟨HO, Hat, -, Hpay⟩
  ihave Hp := (Entails.of_eq (rest_send m c j)) $$ Hpay
  iapply Hk
  isplitl [HO]; · iexact HO
  isplitl [Hat] <;> iassumption

/-- A cell of whose only round nothing is left closes: its counter, at zero, is the device's again. -/
theorem close_cell (g : GSem nD τ sig) (κ : ℕ) :
    iprop(cellInv ER (exRd m) κ g ∗ atPos ER g 1 ∅ 0) ⊢ |={Set.univ}=> semVal g 0 :=
  Rounds.cell_close ER (exRd m) (Set.mem_univ κ) (fun h => h) (R := 0 + 1) (duties_later m g)

end Cert.Exchange
-- ==== Proof.Body.lean ====
/-
# A device's run of the kernel's body

From what the launch gives device `c` — its share of the protocol (`start`), its scratch in pieces, its rows of `x` and
the whole of `w` — the body runs to its end and leaves everything as it was, the result's four row blocks at `outV`.
-/
module

public import proofs.«01_k».proof.Proof.Steps
public import proofs.«01_k».proof.Proof.Gen.KernelIdeal.Points
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The pieces -/

/-- The four halves of the two weight slots: slot 0's upper and lower, slot 1's upper and lower. -/
def wPc : Fin 4 → Memref sig .tc .vmem S1024x512 .f32
  | 0 => (wM.slice (Rect.unit (s := S2x2048x512) ![0, 0, 0] S1x1024x512.size inb_S2x2048x512_S1x1024x512_0_0_0) (fun _ => rfl)).squeeze S1024x512 squeezes_S1x1024x512_S1024x512
  | 1 => (wM.slice (Rect.unit (s := S2x2048x512) ![0, 1024, 0] S1x1024x512.size inb_S2x2048x512_S1x1024x512_0_1024_0) (fun _ => rfl)).squeeze S1024x512 squeezes_S1x1024x512_S1024x512
  | 2 => (wM.slice (Rect.unit (s := S2x2048x512) ![1, 0, 0] S1x1024x512.size inb_S2x2048x512_S1x1024x512_1_0_0) (fun _ => rfl)).squeeze S1024x512 squeezes_S1x1024x512_S1024x512
  | 3 => (wM.slice (Rect.unit (s := S2x2048x512) ![1, 1024, 0] S1x1024x512.size inb_S2x2048x512_S1x1024x512_1_1024_0) (fun _ => rfl)).squeeze S1024x512 squeezes_S1x1024x512_S1024x512

/-- The four staged blocks of the result: one per landing slot, and last the device's own. -/
def stPc : Fin 4 → Memref sig .tc .vmem S512x512 .f32
  | 0 => (stM.slice (Rect.unit (s := S4x512x512) ![0, 0, 0] S1x512x512.size inb_S4x512x512_S1x512x512_0_0_0) (fun _ => rfl)).squeeze S512x512 squeezes_S1x512x512_S512x512
  | 1 => (stM.slice (Rect.unit (s := S4x512x512) ![1, 0, 0] S1x512x512.size inb_S4x512x512_S1x512x512_1_0_0) (fun _ => rfl)).squeeze S512x512 squeezes_S1x512x512_S512x512
  | 2 => (stM.slice (Rect.unit (s := S4x512x512) ![2, 0, 0] S1x512x512.size inb_S4x512x512_S1x512x512_2_0_0) (fun _ => rfl)).squeeze S512x512 squeezes_S1x512x512_S512x512
  | 3 => (stM.slice (Rect.unit (s := S4x512x512) ![3, 0, 0] S1x512x512.size inb_S4x512x512_S1x512x512_3_0_0) (fun _ => rfl)).squeeze S512x512 squeezes_S1x512x512_S512x512

/-- The row blocks of the result they are copied to. -/
def oPc (c : Dev nD) : Fin 4 → Memref sig .tc .hbm S512x512 .f32
  | 0 => oA.slice (Rect.unit (s := S2048x512) (k0_off5 c) S512x512.size (k0_off5_inb c)) (fun _ => rfl)
  | 1 => oA.slice (Rect.unit (s := S2048x512) (k0_off4 c 1#32) S512x512.size (k0_off4_inb c 0)) (fun _ => rfl)
  | 2 => oA.slice (Rect.unit (s := S2048x512) (k0_off4 c 2#32) S512x512.size (k0_off4_inb c 1)) (fun _ => rfl)
  | 3 => oA.slice (Rect.unit (s := S2048x512) (k0_off3 c) S512x512.size (k0_off3_inb c)) (fun _ => rfl)

/-- The one word of the scale sent in slot `s` that its receiver reads. -/
def scl (d : Dev nD) (s : Fin 3) : Vec F S1x1x1 .f32 := fun y => blkS m d s ((Rect.unit (s := S1x8x128) ![0, 0, 0] S1x1x1.size (by decide)).idx y)

/-- The four blocks of the result: the three received and dequantised, and the device's own. -/
def outV (c : Dev nD) : Fin 4 → S512x512.Idx → Elt F .f32
  | 0 => shapeCast S512x512 (k0_pay21 (k0_pay20 (blkB m (source 0 c) 0)) (scl m (source 0 c) 0)) shapeCasts_S1x512x512_S512x512
  | 1 => shapeCast S512x512 (k0_pay22 (blkB m (source 1 c) 1) (scl m (source 1 c) 1)) shapeCasts_S1x512x512_S512x512
  | 2 => shapeCast S512x512 (k0_pay19 (blkB m (source 2 c) 2) (scl m (source 2 c) 2)) shapeCasts_S1x512x512_S512x512
  | 3 => shapeCast S512x512 (k0_pay18 (k0_pay1 (xv m c)) (wUp' m c 0) (wDn' m c 0)) shapeCasts_S1x512x512_S512x512

/-- A device's scratch, in the pieces that move as one, whatever they hold. -/
def scratch (c : Dev nD) : sProp (MT nD τ sig Unit (Elt F) ℕ UU ℕ) :=
  iprop((∃ f, pts xM c f) ∗ (bigSep Finset.univ fun j => iprop(∃ f, pts (wPc j) c f)) ∗ (bigSep Finset.univ fun j => iprop(∃ f, pts (stPc j) c f))
    ∗ (bigSep Finset.univ fun s => iprop(∃ f, pts (slotB sndM s) c f)) ∗ (bigSep Finset.univ fun s => iprop(∃ f, pts (slotB rcvM s) c f))
    ∗ (bigSep Finset.univ fun s => iprop(∃ f, pts (slotS ssM s) c f)) ∗ (bigSep Finset.univ fun s => iprop(∃ f, pts (slotS srM s) c f)))

set_option backward.proofsInPublic true in
/-- The semaphores only a device's own copies use, at zero. -/
def sems (c : Dev nD) : sProp (MT nD τ sig Unit (Elt F) ℕ UU ℕ) :=
  bigSep Finset.univ fun i : Fin 9 => semVal ((c : Thread nD τ), .dma ⟨i.val, by show _ < 21; omega⟩) 0

/-- A device's share of the protocol: what it pays with, -/
def tickets (c : Dev nD) : sProp (MT nD τ sig Unit (Elt F) ℕ UU ℕ) :=
  iprop((bigSep Finset.univ fun s : Fin 3 => dutyTok ER (barCell (source s c)) 0 s)
    ∗ (bigSep Finset.univ fun k : Fin 6 => dutyTok ER (sendCell c k) 0 0)
    ∗ (bigSep Finset.univ fun s : Fin 3 => dutyTok ER (recvCell (peer s c) (lo s)) 0 0)
    ∗ (bigSep Finset.univ fun s : Fin 3 => dutyTok ER (recvCell (peer s c) (hi s)) 0 0))
/-- what it collects with, -/
def places (c : Dev nD) : sProp (MT nD τ sig Unit (Elt F) ℕ UU ℕ) :=
  iprop(atPos ER (barCell c) 0 ∅ 0 ∗ (bigSep Finset.univ fun k : Fin 6 => atPos ER (sendCell c k) 0 ∅ 0)
    ∗ (bigSep Finset.univ fun k : Fin 6 => atPos ER (recvCell c k) 0 ∅ 0))
/-- and what it is owed. -/
def dues (c : Dev nD) : sProp (MT nD τ sig Unit (Elt F) ℕ UU ℕ) :=
  iprop(cred (tallyAt (barCell c) () 3) ∗ (bigSep Finset.univ fun k : Fin 6 => cred (tallyAt (recvCell c k) () (credit k))))

/-- The protocol's cells of a device, closed. -/
def closed (c : Dev nD) : sProp (MT nD τ sig Unit (Elt F) ℕ UU ℕ) :=
  iprop(semVal (barCell c) 0 ∗ (bigSep Finset.univ fun k : Fin 6 => semVal (sendCell c k) 0)
    ∗ (bigSep Finset.univ fun k : Fin 6 => semVal (recvCell c k) 0))

/-- The arrays before the run, -/
def arrays (c : Dev nD) : sProp (MT nD τ sig Unit (Elt F) ℕ UU ℕ) :=
  iprop(pts xA c (m ((c : Thread nD τ).loc main_arg0)) ∗ pts wA c (m ((c : Thread nD τ).loc main_arg1))
    ∗ bigSep Finset.univ fun j => iprop(∃ f, pts (oPc c j) c f))
/-- and after it. -/
def arrays' (c : Dev nD) : sProp (MT nD τ sig Unit (Elt F) ℕ UU ℕ) :=
  iprop(pts xA c (m ((c : Thread nD τ).loc main_arg0)) ∗ pts wA c (m ((c : Thread nD τ).loc main_arg1))
    ∗ bigSep Finset.univ fun j => at_ (oPc c j) c (outV m c j))

/-- What device `c` starts the body with, -/
def start (K : Dev nD × Fin 13 → ℕ) (c : Dev nD) : sProp (MT nD τ sig Unit (Elt F) ℕ UU ℕ) :=
  iprop(records m K ∗ levAts L lv ∗ tickets c ∗ places c ∗ dues c ∗ sems c ∗ scratch c ∗ arrays m c)
/-- and what it ends with. -/
def finish (c : Dev nD) : sProp (MT nD τ sig Unit (Elt F) ℕ UU ℕ) :=
  iprop(closed c ∗ sems c ∗ scratch c ∗ arrays' m c)

theorem sep_three (Φ : Fin 3 → sProp (MT nD τ sig Unit (Elt F) ℕ UU ℕ)) : bigSep Finset.univ Φ = iprop(Φ 0 ∗ Φ 1 ∗ Φ 2) := by
  rw [bigSep_univ_eq_bigSepL [0, 1, 2] (by decide) (by decide)]; rfl
theorem sep_four (Φ : Fin 4 → sProp (MT nD τ sig Unit (Elt F) ℕ UU ℕ)) : bigSep Finset.univ Φ = iprop(Φ 0 ∗ Φ 1 ∗ Φ 2 ∗ Φ 3) := by
  rw [bigSep_univ_eq_bigSepL [0, 1, 2, 3] (by decide) (by decide)]; rfl
theorem sep_five (Φ : Fin 5 → sProp (MT nD τ sig Unit (Elt F) ℕ UU ℕ)) : bigSep Finset.univ Φ = iprop(Φ 0 ∗ Φ 1 ∗ Φ 2 ∗ Φ 3 ∗ Φ 4) := by
  rw [bigSep_univ_eq_bigSepL [0, 1, 2, 3, 4] (by decide) (by decide)]; rfl
theorem sep_six (Φ : Fin 6 → sProp (MT nD τ sig Unit (Elt F) ℕ UU ℕ)) :
    bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]; rfl
theorem sep_nine (Φ : Fin 9 → sProp (MT nD τ sig Unit (Elt F) ℕ UU ℕ)) :
    bigSep Finset.univ Φ = iprop(Φ 0 ∗ Φ 1 ∗ Φ 2 ∗ Φ 3 ∗ Φ 4 ∗ Φ 5 ∗ Φ 6 ∗ Φ 7 ∗ Φ 8) := by
  rw [bigSep_univ_eq_bigSepL [0, 1, 2, 3, 4, 5, 6, 7, 8] (by decide) (by decide)]; rfl

/-- A squeezed slice read after a store through its parent at the slice's rectangle: the payload, cast. -/
theorem read_store {κ : Kind} {sp : Space} {s s' : Shape} {e : EltTy} (M : Memref sig κ sp s e) (r : Rect s) (hr : ∀ a, r.stride a = 1)
    (hq : r.shape.Squeezes s') (hc : r.shape.ShapeCasts s') (f : (M.access r).ty.Contents (Elt F)) (w : r.shape.Idx → Elt F e) :
    ((M.slice r hr).squeeze s' hq).view.read (Elt F) ((M.access r).write (Elt F) f w Finset.univ) = shapeCast s' w hc :=
  (Memref.read_squeeze_slice M r hr hq hc _).trans (congrArg (fun v => shapeCast s' v hc) (View.read_write_univ _ _))

/-- A load at a rectangle whose squeezed slice reads `v`: `v`, cast back. -/
theorem load_read {κ : Kind} {sp : Space} {s s' : Shape} {e : EltTy} (M : Memref sig κ sp s e) (r : Rect s) (hr : ∀ a, r.stride a = 1)
    (hq : r.shape.Squeezes s') (hc' : s'.ShapeCasts r.shape) (f : M.view.ty.Contents (Elt F)) {v : s'.Idx → Elt F e}
    (h : ((M.slice r hr).squeeze s' hq).view.read (Elt F) f = v) : M.view.readAt (Elt F) r.toLoadRect f = shapeCast r.shape v hc' := by
  have hc : r.shape.ShapeCasts s' := hc'.symm
  subst h
  rw [Memref.read_squeeze_slice M r hr hq hc f, shapeCast_shapeCast]

/-- A load at a rectangle whose squeezed slice was last written whole: what was written, cast. -/
theorem load_written {κ : Kind} {sp : Space} {s s' : Shape} {e : EltTy} (M : Memref sig κ sp s e) (r : Rect s) (hr : ∀ a, r.stride a = 1)
    (hq : r.shape.Squeezes s') (hc' : s'.ShapeCasts r.shape) (f : M.view.ty.Contents (Elt F)) {v v' : s'.Idx → Elt F e} (hv : v = v')
    (P : List (View.Piece (Elt F) s' e)) :
    M.view.readAt (Elt F) r.toLoadRect (((M.slice r hr).squeeze s' hq).view.writes (Elt F) f (⟨Rect.whole s', v⟩ :: P)) = shapeCast r.shape v' hc' := by
  subst hv
  refine load_read M r hr hq hc' _ (funext fun y => ?_)
  have h := View.read_writes_cons_emb ((M.slice r hr).squeeze s' hq).view f (Rect.whole s') v P y
  rwa [Rect.emb_whole_apply] at h

theorem casts_blk : S512x512.ShapeCasts S1x512x512 := by decide
theorem casts_scl : S8x128.ShapeCasts S1x8x128 := by decide

theorem storeB0 (f : (sndM.access (Rect.unit (s := S3x512x512) ![0, 0, 0] S1x512x512.size inb_S3x512x512_S1x512x512_0_0_0)).ty.Contents (Elt F)) (w : S1x512x512.Idx → Elt F .i8) :
    (slotB sndM 0).view.read (Elt F) ((sndM.access (Rect.unit (s := S3x512x512) ![0, 0, 0] S1x512x512.size inb_S3x512x512_S1x512x512_0_0_0)).write (Elt F) f w Finset.univ)
      = shapeCast S512x512 w shapeCasts_S1x512x512_S512x512 :=
  read_store sndM (Rect.unit (s := S3x512x512) ![0, 0, 0] S1x512x512.size inb_S3x512x512_S1x512x512_0_0_0) (fun _ => rfl) squeezes_S1x512x512_S512x512 shapeCasts_S1x512x512_S512x512 f w
theorem storeS0 (f : (ssM.access (Rect.unit (s := S3x8x128) ![0, 0, 0] S1x8x128.size inb_S3x8x128_S1x8x128_0_0_0)).ty.Contents (Elt F)) (w : S1x8x128.Idx → Elt F .f32) :
    (slotS ssM 0).view.read (Elt F) ((ssM.access (Rect.unit (s := S3x8x128) ![0, 0, 0] S1x8x128.size inb_S3x8x128_S1x8x128_0_0_0)).write (Elt F) f w Finset.univ)
      = shapeCast S8x128 w shapeCasts_S1x8x128_S8x128 :=
  read_store ssM (Rect.unit (s := S3x8x128) ![0, 0, 0] S1x8x128.size inb_S3x8x128_S1x8x128_0_0_0) (fun _ => rfl) squeezes_S1x8x128_S8x128 shapeCasts_S1x8x128_S8x128 f w
theorem storeB1 (f : (sndM.access (Rect.unit (s := S3x512x512) ![1, 0, 0] S1x512x512.size inb_S3x512x512_S1x512x512_1_0_0)).ty.Contents (Elt F)) (w : S1x512x512.Idx → Elt F .i8) :
    (slotB sndM 1).view.read (Elt F) ((sndM.access (Rect.unit (s := S3x512x512) ![1, 0, 0] S1x512x512.size inb_S3x512x512_S1x512x512_1_0_0)).write (Elt F) f w Finset.univ)
      = shapeCast S512x512 w shapeCasts_S1x512x512_S512x512 :=
  read_store sndM (Rect.unit (s := S3x512x512) ![1, 0, 0] S1x512x512.size inb_S3x512x512_S1x512x512_1_0_0) (fun _ => rfl) squeezes_S1x512x512_S512x512 shapeCasts_S1x512x512_S512x512 f w
theorem storeS1 (f : (ssM.access (Rect.unit (s := S3x8x128) ![1, 0, 0] S1x8x128.size inb_S3x8x128_S1x8x128_1_0_0)).ty.Contents (Elt F)) (w : S1x8x128.Idx → Elt F .f32) :
    (slotS ssM 1).view.read (Elt F) ((ssM.access (Rect.unit (s := S3x8x128) ![1, 0, 0] S1x8x128.size inb_S3x8x128_S1x8x128_1_0_0)).write (Elt F) f w Finset.univ)
      = shapeCast S8x128 w shapeCasts_S1x8x128_S8x128 :=
  read_store ssM (Rect.unit (s := S3x8x128) ![1, 0, 0] S1x8x128.size inb_S3x8x128_S1x8x128_1_0_0) (fun _ => rfl) squeezes_S1x8x128_S8x128 shapeCasts_S1x8x128_S8x128 f w
theorem storeB2 (f : (sndM.access (Rect.unit (s := S3x512x512) ![2, 0, 0] S1x512x512.size inb_S3x512x512_S1x512x512_2_0_0)).ty.Contents (Elt F)) (w : S1x512x512.Idx → Elt F .i8) :
    (slotB sndM 2).view.read (Elt F) ((sndM.access (Rect.unit (s := S3x512x512) ![2, 0, 0] S1x512x512.size inb_S3x512x512_S1x512x512_2_0_0)).write (Elt F) f w Finset.univ)
      = shapeCast S512x512 w shapeCasts_S1x512x512_S512x512 :=
  read_store sndM (Rect.unit (s := S3x512x512) ![2, 0, 0] S1x512x512.size inb_S3x512x512_S1x512x512_2_0_0) (fun _ => rfl) squeezes_S1x512x512_S512x512 shapeCasts_S1x512x512_S512x512 f w
theorem storeS2 (f : (ssM.access (Rect.unit (s := S3x8x128) ![2, 0, 0] S1x8x128.size inb_S3x8x128_S1x8x128_2_0_0)).ty.Contents (Elt F)) (w : S1x8x128.Idx → Elt F .f32) :
    (slotS ssM 2).view.read (Elt F) ((ssM.access (Rect.unit (s := S3x8x128) ![2, 0, 0] S1x8x128.size inb_S3x8x128_S1x8x128_2_0_0)).write (Elt F) f w Finset.univ)
      = shapeCast S8x128 w shapeCasts_S1x8x128_S8x128 :=
  read_store ssM (Rect.unit (s := S3x8x128) ![2, 0, 0] S1x8x128.size inb_S3x8x128_S1x8x128_2_0_0) (fun _ => rfl) squeezes_S1x8x128_S8x128 shapeCasts_S1x8x128_S8x128 f w

/-- The block a device finds in its landing slot 0, -/
theorem landB0 (d : Dev nD) : rcvM.view.readAt (Elt F) (Rect.unit (s := S3x512x512) ![0, 0, 0] S1x512x512.size inb_S3x512x512_S1x512x512_0_0_0).toLoadRect ((slotB rcvM 0).view.rep (sentB m d 0)) = blkB m d 0 :=
  (load_read rcvM (Rect.unit (s := S3x512x512) ![0, 0, 0] S1x512x512.size inb_S3x512x512_S1x512x512_0_0_0) (fun _ => rfl) squeezes_S1x512x512_S512x512 casts_blk _
    (View.read_rep (slotB rcvM 0).view (sentB m d 0))).trans (shapeCast_shapeCast _ _ _)
/-- and its scale. -/
theorem landS0 (d : Dev nD) : srM.view.readAt (Elt F) (Rect.unit (s := S3x8x128) ![0, 0, 0] S1x1x1.size inb_S3x8x128_S1x1x1_0_0_0).toLoadRect ((slotS srM 0).view.rep (sentS m d 0)) = scl m d 0 := by
  have h : srM.view.readAt (Elt F) (Rect.unit (s := S3x8x128) ![0, 0, 0] S1x8x128.size inb_S3x8x128_S1x8x128_0_0_0).toLoadRect ((slotS srM 0).view.rep (sentS m d 0)) = blkS m d 0 :=
    (load_read srM (Rect.unit (s := S3x8x128) ![0, 0, 0] S1x8x128.size inb_S3x8x128_S1x8x128_0_0_0) (fun _ => rfl) squeezes_S1x8x128_S8x128 casts_scl _
      (View.read_rep (slotS srM 0).view (sentS m d 0))).trans (shapeCast_shapeCast _ _ _)
  funext y
  unfold scl
  rw [← h]
  refine congrArg (srM.view.read (Elt F) ((slotS srM 0).view.rep (sentS m d 0))) (funext fun a => Fin.ext ?_)
  show (![0, 0, 0] : Fin 3 → ℕ) a + 1 * (y a).val = (![0, 0, 0] : Fin 3 → ℕ) a + 1 * ((![0, 0, 0] : Fin 3 → ℕ) a + 1 * (y a).val)
  fin_cases a <;> simp
/-- The block a device finds in its landing slot 1, -/
theorem landB1 (d : Dev nD) : rcvM.view.readAt (Elt F) (Rect.unit (s := S3x512x512) ![1, 0, 0] S1x512x512.size inb_S3x512x512_S1x512x512_1_0_0).toLoadRect ((slotB rcvM 1).view.rep (sentB m d 1)) = blkB m d 1 :=
  (load_read rcvM (Rect.unit (s := S3x512x512) ![1, 0, 0] S1x512x512.size inb_S3x512x512_S1x512x512_1_0_0) (fun _ => rfl) squeezes_S1x512x512_S512x512 casts_blk _
    (View.read_rep (slotB rcvM 1).view (sentB m d 1))).trans (shapeCast_shapeCast _ _ _)
/-- and its scale. -/
theorem landS1 (d : Dev nD) : srM.view.readAt (Elt F) (Rect.unit (s := S3x8x128) ![1, 0, 0] S1x1x1.size inb_S3x8x128_S1x1x1_1_0_0).toLoadRect ((slotS srM 1).view.rep (sentS m d 1)) = scl m d 1 := by
  have h : srM.view.readAt (Elt F) (Rect.unit (s := S3x8x128) ![1, 0, 0] S1x8x128.size inb_S3x8x128_S1x8x128_1_0_0).toLoadRect ((slotS srM 1).view.rep (sentS m d 1)) = blkS m d 1 :=
    (load_read srM (Rect.unit (s := S3x8x128) ![1, 0, 0] S1x8x128.size inb_S3x8x128_S1x8x128_1_0_0) (fun _ => rfl) squeezes_S1x8x128_S8x128 casts_scl _
      (View.read_rep (slotS srM 1).view (sentS m d 1))).trans (shapeCast_shapeCast _ _ _)
  funext y
  unfold scl
  rw [← h]
  refine congrArg (srM.view.read (Elt F) ((slotS srM 1).view.rep (sentS m d 1))) (funext fun a => Fin.ext ?_)
  show (![1, 0, 0] : Fin 3 → ℕ) a + 1 * (y a).val = (![1, 0, 0] : Fin 3 → ℕ) a + 1 * ((![0, 0, 0] : Fin 3 → ℕ) a + 1 * (y a).val)
  fin_cases a <;> simp
/-- The block a device finds in its landing slot 2, -/
theorem landB2 (d : Dev nD) : rcvM.view.readAt (Elt F) (Rect.unit (s := S3x512x512) ![2, 0, 0] S1x512x512.size inb_S3x512x512_S1x512x512_2_0_0).toLoadRect ((slotB rcvM 2).view.rep (sentB m d 2)) = blkB m d 2 :=
  (load_read rcvM (Rect.unit (s := S3x512x512) ![2, 0, 0] S1x512x512.size inb_S3x512x512_S1x512x512_2_0_0) (fun _ => rfl) squeezes_S1x512x512_S512x512 casts_blk _
    (View.read_rep (slotB rcvM 2).view (sentB m d 2))).trans (shapeCast_shapeCast _ _ _)
/-- and its scale. -/
theorem landS2 (d : Dev nD) : srM.view.readAt (Elt F) (Rect.unit (s := S3x8x128) ![2, 0, 0] S1x1x1.size inb_S3x8x128_S1x1x1_2_0_0).toLoadRect ((slotS srM 2).view.rep (sentS m d 2)) = scl m d 2 := by
  have h : srM.view.readAt (Elt F) (Rect.unit (s := S3x8x128) ![2, 0, 0] S1x8x128.size inb_S3x8x128_S1x8x128_2_0_0).toLoadRect ((slotS srM 2).view.rep (sentS m d 2)) = blkS m d 2 :=
    (load_read srM (Rect.unit (s := S3x8x128) ![2, 0, 0] S1x8x128.size inb_S3x8x128_S1x8x128_2_0_0) (fun _ => rfl) squeezes_S1x8x128_S8x128 casts_scl _
      (View.read_rep (slotS srM 2).view (sentS m d 2))).trans (shapeCast_shapeCast _ _ _)
  funext y
  unfold scl
  rw [← h]
  refine congrArg (srM.view.read (Elt F) ((slotS srM 2).view.rep (sentS m d 2))) (funext fun a => Fin.ext ?_)
  show (![2, 0, 0] : Fin 3 → ℕ) a + 1 * (y a).val = (![2, 0, 0] : Fin 3 → ℕ) a + 1 * ((![0, 0, 0] : Fin 3 → ℕ) a + 1 * (y a).val)
  fin_cases a <;> simp
theorem storeO0 (f : (stM.access (Rect.unit (s := S4x512x512) ![0, 0, 0] S1x512x512.size inb_S4x512x512_S1x512x512_0_0_0)).ty.Contents (Elt F)) (w : S1x512x512.Idx → Elt F .f32) :
    (stPc 0).view.read (Elt F) ((stM.access (Rect.unit (s := S4x512x512) ![0, 0, 0] S1x512x512.size inb_S4x512x512_S1x512x512_0_0_0)).write (Elt F) f w Finset.univ)
      = shapeCast S512x512 w shapeCasts_S1x512x512_S512x512 :=
  read_store stM (Rect.unit (s := S4x512x512) ![0, 0, 0] S1x512x512.size inb_S4x512x512_S1x512x512_0_0_0) (fun _ => rfl) squeezes_S1x512x512_S512x512 shapeCasts_S1x512x512_S512x512 f w
theorem storeO1 (f : (stM.access (Rect.unit (s := S4x512x512) ![1, 0, 0] S1x512x512.size inb_S4x512x512_S1x512x512_1_0_0)).ty.Contents (Elt F)) (w : S1x512x512.Idx → Elt F .f32) :
    (stPc 1).view.read (Elt F) ((stM.access (Rect.unit (s := S4x512x512) ![1, 0, 0] S1x512x512.size inb_S4x512x512_S1x512x512_1_0_0)).write (Elt F) f w Finset.univ)
      = shapeCast S512x512 w shapeCasts_S1x512x512_S512x512 :=
  read_store stM (Rect.unit (s := S4x512x512) ![1, 0, 0] S1x512x512.size inb_S4x512x512_S1x512x512_1_0_0) (fun _ => rfl) squeezes_S1x512x512_S512x512 shapeCasts_S1x512x512_S512x512 f w
theorem storeO2 (f : (stM.access (Rect.unit (s := S4x512x512) ![2, 0, 0] S1x512x512.size inb_S4x512x512_S1x512x512_2_0_0)).ty.Contents (Elt F)) (w : S1x512x512.Idx → Elt F .f32) :
    (stPc 2).view.read (Elt F) ((stM.access (Rect.unit (s := S4x512x512) ![2, 0, 0] S1x512x512.size inb_S4x512x512_S1x512x512_2_0_0)).write (Elt F) f w Finset.univ)
      = shapeCast S512x512 w shapeCasts_S1x512x512_S512x512 :=
  read_store stM (Rect.unit (s := S4x512x512) ![2, 0, 0] S1x512x512.size inb_S4x512x512_S1x512x512_2_0_0) (fun _ => rfl) squeezes_S1x512x512_S512x512 shapeCasts_S1x512x512_S512x512 f w
theorem storeO3 (f : (stM.access (Rect.unit (s := S4x512x512) ![3, 0, 0] S1x512x512.size inb_S4x512x512_S1x512x512_3_0_0)).ty.Contents (Elt F)) (w : S1x512x512.Idx → Elt F .f32) :
    (stPc 3).view.read (Elt F) ((stM.access (Rect.unit (s := S4x512x512) ![3, 0, 0] S1x512x512.size inb_S4x512x512_S1x512x512_3_0_0)).write (Elt F) f w Finset.univ)
      = shapeCast S512x512 w shapeCasts_S1x512x512_S512x512 :=
  read_store stM (Rect.unit (s := S4x512x512) ![3, 0, 0] S1x512x512.size inb_S4x512x512_S1x512x512_3_0_0) (fun _ => rfl) squeezes_S1x512x512_S512x512 shapeCasts_S1x512x512_S512x512 f w

theorem body (K : Dev nD × Fin 13 → ℕ) (c : Dev nD) (t : Fin cfg0.N) (W : Waits sig Unit) (Q : PUnit → sProp (MT nD τ sig Unit (Elt F) ℕ UU ℕ)) :
    iprop(start m K c ∗ owes (c : Thread nD τ) (O₀ c) W ∗ ((∃ W', owes (c : Thread nD τ) 0 W' ∗ finish m c) -∗ Q ⟨⟩))
      ⊢ wp frame (wpE (defs₀ (F := F)) 𝒱₀ (c : Thread nD τ) none) Set.univ (bodyAt0 (F := F) t) Q := by
  have hmw := fun q hq n => mayWait_low (F := F) c q hq n
  unfold bodyAt0
  rw [cc0_body_eq_skeleton]
  unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel
  simp only [semSignalWord, semWaitWord, Prog.lift, Prog.bind_op, Prog.bind_ret, Prog.pure_eq_ret, wp_deviceId]
  unfold start tickets places dues sems scratch arrays O₀
  simp only [sep_three, sep_four, sep_six, sep_nine]
  iintro ⟨⟨#Hrec, #Hlev, ⟨⟨Te0, Te1, Te2⟩, ⟨Ts0, Ts1, Ts2, Ts3, Ts4, Ts5⟩, ⟨Tb0, Tb1, Tb2⟩, ⟨Tc0, Tc1, Tc2⟩⟩,
    ⟨Pb, ⟨Ps0, Ps1, Ps2, Ps3, Ps4, Ps5⟩, ⟨Pr0, Pr1, Pr2, Pr3, Pr4, Pr5⟩⟩, ⟨Cb, ⟨Cr0, Cr1, Cr2, Cr3, Cr4, Cr5⟩⟩,
    ⟨Hs0, Hs1, Hs2, Hs3, Hs4, Hs5, Hs6, Hs7, Hs8⟩,
    ⟨⟨%fx, HxM⟩, ⟨⟨%f0, Hw0⟩, ⟨%f1, Hw1⟩, ⟨%f2, Hw2⟩, ⟨%f3, Hw3⟩⟩, ⟨⟨%g0, Hg0⟩, ⟨%g1, Hg1⟩, ⟨%g2, Hg2⟩, ⟨%g3, Hg3⟩⟩,
      ⟨⟨%b0, Hb0⟩, ⟨%b1, Hb1⟩, ⟨%b2, Hb2⟩⟩, ⟨Hr0, Hr1, Hr2⟩, ⟨⟨%e0, He0⟩, ⟨%e1, He1⟩, ⟨%e2, He2⟩⟩, ⟨Hq0, Hq1, Hq2⟩⟩,
    ⟨HxA, HwA, ⟨⟨%o0, Ho0⟩, ⟨%o1, Ho1⟩, ⟨%o2, Ho2⟩, ⟨%o3, Ho3⟩⟩⟩⟩, HO, HQ⟩
  simp only [wPc, stPc, oPc]
  iapply (step_enter m K 0 8 rfl (dev1_eq c)) $$ [HO Te0 Hr0 Hq0]
  · isplitr; · iexact Hrec
    isplitl [HO]; · iexact HO
    isplitl [Te0]; · iexact Te0
    isplitl [Hr0] <;> iassumption
  iintro HO
  iapply (step_enter m K 1 7 rfl (dev2_eq c)) $$ [HO Te1 Hr1 Hq1]
  · isplitr; · iexact Hrec
    isplitl [HO]; · iexact HO
    isplitl [Te1]; · iexact Te1
    isplitl [Hr1] <;> iassumption
  iintro HO
  iapply (step_enter m K 2 6 rfl (dev3_eq c)) $$ [HO Te2 Hr2 Hq2]
  · isplitr; · iexact Hrec
    isplitl [HO]; · iexact HO
    isplitl [Te2]; · iexact Te2
    isplitl [Hr2] <;> iassumption
  iintro HO
  ihave ⟨HwA, Hwt⟩ := (Transfers.pointsTo_toks_split fullShare 5) $$ HwA
  ihave ⟨Ha0, Ha1, Ha2, Ha3, Ha4⟩ := (Entails.of_eq (sep_five _)) $$ Hwt
  sl_exec
  iapply (step_gather m K) $$ [Cb HO Pb]
  · isplitr; · iexact Hrec
    isplitr; · iexact Hlev
    isplitl [Cb]; · iexact Cb
    isplitl [HO] <;> iassumption
  iintro ⟨HO, Pb, Z0, Z1, Z2⟩
  unfold barPay
  icases Z0 with ⟨ZB0, ZS0⟩
  icases Z1 with ⟨ZB1, ZS1⟩
  icases Z2 with ⟨ZB2, ZS2⟩
  have hx : body.sl.x m c = xv m c := by
    unfold body.sl.x View.readCov
    exact (View.readAt_full _ _ _).trans (View.read_writes_whole _ _ _)
  have hx1 : body.sl.x_1 m c = wUp' m c 2 := load_written wM _ _ squeezes_S1x1024x512_S1024x512 casts_half _ rfl _
  have hx2 : body.sl.x_2 m c = wDn' m c 2 := load_written wM _ _ squeezes_S1x1024x512_S1024x512 casts_half _ rfl _
  iapply (step_sendB m K 2 5 rfl (dev4_eq c) rfl rfl rfl rfl ?hB2) $$ [HO Hb2 ZB2 Ts2 Tb2]
  rotate_left
  · isplitr; · iexact Hrec
    isplitl [HO]; · iexact HO
    isplitl [Hb2]; · iexact Hb2
    isplitl [ZB2]; · iexact ZB2
    isplitl [Ts2]; · iexact Ts2
    iexact Tb2
  case hB2 =>
    unfold body.sl.Hb2_w1
    refine (storeB2 _ _).trans ?_
    rw [hx, hx1, hx2]; rfl
  iintro ⟨Cs2, HO⟩
  iapply (step_sendS m K 2 4 rfl (dev5_eq c) rfl rfl rfl rfl ?hS2) $$ [HO He2 ZS2 Ts5 Tc2]
  rotate_left
  · isplitr; · iexact Hrec
    isplitl [HO]; · iexact HO
    isplitl [He2]; · iexact He2
    isplitl [ZS2]; · iexact ZS2
    isplitl [Ts5]; · iexact Ts5
    iexact Tc2
  case hS2 =>
    unfold body.sl.He2_w2
    refine (storeS2 _ _).trans ?_
    rw [hx, hx1, hx2]; rfl
  iintro ⟨Cs5, HO⟩
  sl_exec
  have hx3 : body.sl.x_3 m c = wUp' m c 1 := load_written wM _ _ squeezes_S1x1024x512_S1024x512 casts_half _ rfl _
  have hx4 : body.sl.x_4 m c = wDn' m c 1 := load_written wM _ _ squeezes_S1x1024x512_S1024x512 casts_half _ rfl _
  iapply (step_sendB m K 0 3 rfl (dev6_eq c) rfl rfl rfl rfl ?hB0) $$ [HO Hb0 ZB0 Ts0 Tb0]
  rotate_left
  · isplitr; · iexact Hrec
    isplitl [HO]; · iexact HO
    isplitl [Hb0]; · iexact Hb0
    isplitl [ZB0]; · iexact ZB0
    isplitl [Ts0]; · iexact Ts0
    iexact Tb0
  case hB0 =>
    unfold body.sl.Hb0_w1
    refine (storeB0 _ _).trans ?_
    rw [hx, hx3, hx4]; rfl
  iintro ⟨Cs0, HO⟩
  iapply (step_sendS m K 0 2 rfl (dev7_eq c) rfl rfl rfl rfl ?hS0) $$ [HO He0 ZS0 Ts3 Tc0]
  rotate_left
  · isplitr; · iexact Hrec
    isplitl [HO]; · iexact HO
    isplitl [He0]; · iexact He0
    isplitl [ZS0]; · iexact ZS0
    isplitl [Ts3]; · iexact Ts3
    iexact Tc0
  case hS0 =>
    unfold body.sl.He0_w2
    refine (storeS0 _ _).trans ?_
    rw [hx, hx3, hx4]; rfl
  iintro ⟨Cs3, HO⟩
  sl_exec
  have hx5 : body.sl.x_5 m c = wUp' m c 3 := load_written wM _ _ squeezes_S1x1024x512_S1024x512 casts_half _ rfl _
  have hx6 : body.sl.x_6 m c = wDn' m c 3 := load_written wM _ _ squeezes_S1x1024x512_S1024x512 casts_half _ rfl _
  iapply (step_sendB m K 1 1 rfl (dev8_eq c) rfl rfl rfl rfl ?hB1) $$ [HO Hb1 ZB1 Ts1 Tb1]
  rotate_left
  · isplitr; · iexact Hrec
    isplitl [HO]; · iexact HO
    isplitl [Hb1]; · iexact Hb1
    isplitl [ZB1]; · iexact ZB1
    isplitl [Ts1]; · iexact Ts1
    iexact Tb1
  case hB1 =>
    unfold body.sl.Hb1_w1
    refine (storeB1 _ _).trans ?_
    rw [hx, hx5, hx6]; rfl
  iintro ⟨Cs1, HO⟩
  iapply (step_sendS m K 1 0 rfl (dev9_eq c) rfl rfl rfl rfl ?hS1) $$ [HO He1 ZS1 Ts4 Tc1]
  rotate_left
  · isplitr; · iexact Hrec
    isplitl [HO]; · iexact HO
    isplitl [He1]; · iexact He1
    isplitl [ZS1]; · iexact ZS1
    isplitl [Ts4]; · iexact Ts4
    iexact Tc1
  case hS1 =>
    unfold body.sl.He1_w2
    refine (storeS1 _ _).trans ?_
    rw [hx, hx5, hx6]; rfl
  iintro ⟨Cs4, HO⟩
  sl_exec
  iapply (step_land m K 2 rfl ?hN2) $$ [Cr2 HO Pr2]
  rotate_left
  · isplitr; · iexact Hrec
    isplitl [Cr2]; · iexact Cr2
    isplitl [HO] <;> iassumption
  case hN2 => rfl
  iintro ⟨HO, Pr2, HV2⟩
  ihave HV2 := (Entails.of_eq (show recvPay m c 2 = at_ (slotB rcvM 2) c (sentB m (source 2 c) 2) from recvPay_lo m c 2)) $$ HV2
  iapply (step_land m K 5 rfl ?hN5) $$ [Cr5 HO Pr5]
  rotate_left
  · isplitr; · iexact Hrec
    isplitl [Cr5]; · iexact Cr5
    isplitl [HO] <;> iassumption
  case hN5 => rfl
  iintro ⟨HO, Pr5, HV5⟩
  ihave HV5 := (Entails.of_eq (show recvPay m c 5 = at_ (slotS srM 2) c (sentS m (source 2 c) 2) from recvPay_hi m c 2)) $$ HV5
  sl_exec
  iapply (step_land m K 0 rfl ?hN0) $$ [Cr0 HO Pr0]
  rotate_left
  · isplitr; · iexact Hrec
    isplitl [Cr0]; · iexact Cr0
    isplitl [HO] <;> iassumption
  case hN0 => rfl
  iintro ⟨HO, Pr0, HV0⟩
  ihave HV0 := (Entails.of_eq (show recvPay m c 0 = at_ (slotB rcvM 0) c (sentB m (source 0 c) 0) from recvPay_lo m c 0)) $$ HV0
  iapply (step_land m K 3 rfl ?hN3) $$ [Cr3 HO Pr3]
  rotate_left
  · isplitr; · iexact Hrec
    isplitl [Cr3]; · iexact Cr3
    isplitl [HO] <;> iassumption
  case hN3 => rfl
  iintro ⟨HO, Pr3, HV3⟩
  ihave HV3 := (Entails.of_eq (show recvPay m c 3 = at_ (slotS srM 0) c (sentS m (source 0 c) 0) from recvPay_hi m c 0)) $$ HV3
  sl_exec
  iapply (step_land m K 1 rfl ?hN1) $$ [Cr1 HO Pr1]
  rotate_left
  · isplitr; · iexact Hrec
    isplitl [Cr1]; · iexact Cr1
    isplitl [HO] <;> iassumption
  case hN1 => rfl
  iintro ⟨HO, Pr1, HV1⟩
  ihave HV1 := (Entails.of_eq (show recvPay m c 1 = at_ (slotB rcvM 1) c (sentB m (source 1 c) 1) from recvPay_lo m c 1)) $$ HV1
  iapply (step_land m K 4 rfl ?hN4) $$ [Cr4 HO Pr4]
  rotate_left
  · isplitr; · iexact Hrec
    isplitl [Cr4]; · iexact Cr4
    isplitl [HO] <;> iassumption
  case hN4 => rfl
  iintro ⟨HO, Pr4, HV4⟩
  ihave HV4 := (Entails.of_eq (show recvPay m c 4 = at_ (slotS srM 1) c (sentS m (source 1 c) 1) from recvPay_hi m c 1)) $$ HV4
  sl_exec
  iapply (step_left m K 0 rfl ?hM0) $$ [Cs0 HO Ps0]
  rotate_left
  · isplitr; · iexact Hrec
    isplitl [Cs0]; · iexact Cs0
    isplitl [HO] <;> iassumption
  case hM0 => rfl
  iintro ⟨HO, Ps0, HU0⟩
  iapply (step_left m K 3 rfl ?hM3) $$ [Cs3 HO Ps3]
  rotate_left
  · isplitr; · iexact Hrec
    isplitl [Cs3]; · iexact Cs3
    isplitl [HO] <;> iassumption
  case hM3 => rfl
  iintro ⟨HO, Ps3, HU3⟩
  iapply (step_left m K 1 rfl ?hM1) $$ [Cs1 HO Ps1]
  rotate_left
  · isplitr; · iexact Hrec
    isplitl [Cs1]; · iexact Cs1
    isplitl [HO] <;> iassumption
  case hM1 => rfl
  iintro ⟨HO, Ps1, HU1⟩
  iapply (step_left m K 4 rfl ?hM4) $$ [Cs4 HO Ps4]
  rotate_left
  · isplitr; · iexact Hrec
    isplitl [Cs4]; · iexact Cs4
    isplitl [HO] <;> iassumption
  case hM4 => rfl
  iintro ⟨HO, Ps4, HU4⟩
  iapply (step_left m K 2 rfl ?hM2) $$ [Cs2 HO Ps2]
  rotate_left
  · isplitr; · iexact Hrec
    isplitl [Cs2]; · iexact Cs2
    isplitl [HO] <;> iassumption
  case hM2 => rfl
  iintro ⟨HO, Ps2, HU2⟩
  iapply (step_left m K 5 rfl ?hM5) $$ [Cs5 HO Ps5]
  rotate_left
  · isplitr; · iexact Hrec
    isplitl [Cs5]; · iexact Cs5
    isplitl [HO] <;> iassumption
  case hM5 => rfl
  iintro ⟨HO, Ps5, HU5⟩
  have hx7 : body.sl.x_7 m c = wUp' m c 0 := load_written wM _ _ squeezes_S1x1024x512_S1024x512 casts_half _ rfl _
  have hx8 : body.sl.x_8 m c = wDn' m c 0 := load_written wM _ _ squeezes_S1x1024x512_S1024x512 casts_half _ rfl _
  ihave HU0 := (Entails.of_eq (show (sendPay c 0 : sProp (MT nD τ sig Unit (Elt F) ℕ UU ℕ)) = iprop(∃ f, pts (slotB sndM 0) c f) from sendPay_lo c 0)) $$ HU0
  ihave HU1 := (Entails.of_eq (show (sendPay c 1 : sProp (MT nD τ sig Unit (Elt F) ℕ UU ℕ)) = iprop(∃ f, pts (slotB sndM 1) c f) from sendPay_lo c 1)) $$ HU1
  ihave HU2 := (Entails.of_eq (show (sendPay c 2 : sProp (MT nD τ sig Unit (Elt F) ℕ UU ℕ)) = iprop(∃ f, pts (slotB sndM 2) c f) from sendPay_lo c 2)) $$ HU2
  ihave HU3 := (Entails.of_eq (show (sendPay c 3 : sProp (MT nD τ sig Unit (Elt F) ℕ UU ℕ)) = iprop(∃ f, pts (slotS ssM 0) c f) from sendPay_hi c 0)) $$ HU3
  ihave HU4 := (Entails.of_eq (show (sendPay c 4 : sProp (MT nD τ sig Unit (Elt F) ℕ UU ℕ)) = iprop(∃ f, pts (slotS ssM 1) c f) from sendPay_hi c 1)) $$ HU4
  ihave HU5 := (Entails.of_eq (show (sendPay c 5 : sProp (MT nD τ sig Unit (Elt F) ℕ UU ℕ)) = iprop(∃ f, pts (slotS ssM 2) c f) from sendPay_hi c 2)) $$ HU5
  have hx9 : body.sl.x_9 m c = blkB m (source 2 c) 2 := landB2 m (source 2 c)
  have hx10 : body.sl.x_10 m c = scl m (source 2 c) 2 := landS2 m (source 2 c)
  have hx11 : body.sl.x_11 m c = blkB m (source 0 c) 0 := landB0 m (source 0 c)
  have hx12 : body.sl.x_12 m c = scl m (source 0 c) 0 := landS0 m (source 0 c)
  have hx13 : body.sl.x_13 m c = blkB m (source 1 c) 1 := landB1 m (source 1 c)
  have hx14 : body.sl.x_14 m c = scl m (source 1 c) 1 := landS1 m (source 1 c)
  have hd0 : body.sl.dma4_2 m c g0 = outV m c 0 := by
    unfold body.sl.dma4_2 body.sl.Hg0_w1
    refine (storeO0 _ _).trans ?_
    rw [hx11, hx12]; rfl
  have hd1 : body.sl.dma4_3 m c g1 = outV m c 1 := by
    unfold body.sl.dma4_3 body.sl.Hg1_w1
    refine (storeO1 _ _).trans ?_
    rw [hx13, hx14]; rfl
  have hd2 : body.sl.dma4_1 m c g2 = outV m c 2 := by
    unfold body.sl.dma4_1 body.sl.Hg2_w1
    refine (storeO2 _ _).trans ?_
    rw [hx9, hx10]; rfl
  have hd3 : body.sl.dma4 m c g3 = outV m c 3 := by
    unfold body.sl.dma4 body.sl.Hg3_w1
    refine (storeO3 _ _).trans ?_
    rw [hx, hx7, hx8]; rfl
  ihave Ho0 := (pointsTo_rep_of_read (c : Thread nD τ) (oPc c 0) _ fullShare (outV m c 0) ((View.read_writes_whole (oPc c 0).view o0 _).trans hd0)) $$ [Ho0]
  · iexact Ho0
  ihave Ho1 := (pointsTo_rep_of_read (c : Thread nD τ) (oPc c 1) _ fullShare (outV m c 1) ((View.read_writes_whole (oPc c 1).view o1 _).trans hd1)) $$ [Ho1]
  · iexact Ho1
  ihave Ho2 := (pointsTo_rep_of_read (c : Thread nD τ) (oPc c 2) _ fullShare (outV m c 2) ((View.read_writes_whole (oPc c 2).view o2 _).trans hd2)) $$ [Ho2]
  · iexact Ho2
  ihave Ho3 := (pointsTo_rep_of_read (c : Thread nD τ) (oPc c 3) _ fullShare (outV m c 3) ((View.read_writes_whole (oPc c 3).view o3 _).trans hd3)) $$ [Ho3]
  · iexact Ho3
  ihave HwA := (Transfers.pointsTo_toks_join fullShare 5) $$ [HwA Ha0 Ha1 Ha2 Ha3 Ha4]
  · isplitl [HwA]; · iexact HwA
    iapply (Entails.of_eq (sep_five _).symm)
    isplitl [Ha0]; · iexact Ha0
    isplitl [Ha1]; · iexact Ha1
    isplitl [Ha2]; · iexact Ha2
    isplitl [Ha3]; · iexact Ha3
    iexact Ha4
  ihave ⟨#HI, -⟩ := (record_bar m K c) $$ Hrec
  imod (close_cell m (barCell c) (K (c, 0))) $$ [Pb] with Zb
  · isplitr; · iexact HI
    iexact Pb
  ihave ⟨#HIs0, -⟩ := (record_send m K c 0) $$ Hrec
  imod (close_cell m (sendCell c 0) (K (c, iSend 0))) $$ [Ps0] with Zs0
  · isplitr; · iexact HIs0
    iexact Ps0
  ihave ⟨#HIr0, -⟩ := (record_recv m K c 0) $$ Hrec
  imod (close_cell m (recvCell c 0) (K (c, iRecv 0))) $$ [Pr0] with Zr0
  · isplitr; · iexact HIr0
    iexact Pr0
  ihave ⟨#HIs1, -⟩ := (record_send m K c 1) $$ Hrec
  imod (close_cell m (sendCell c 1) (K (c, iSend 1))) $$ [Ps1] with Zs1
  · isplitr; · iexact HIs1
    iexact Ps1
  ihave ⟨#HIr1, -⟩ := (record_recv m K c 1) $$ Hrec
  imod (close_cell m (recvCell c 1) (K (c, iRecv 1))) $$ [Pr1] with Zr1
  · isplitr; · iexact HIr1
    iexact Pr1
  ihave ⟨#HIs2, -⟩ := (record_send m K c 2) $$ Hrec
  imod (close_cell m (sendCell c 2) (K (c, iSend 2))) $$ [Ps2] with Zs2
  · isplitr; · iexact HIs2
    iexact Ps2
  ihave ⟨#HIr2, -⟩ := (record_recv m K c 2) $$ Hrec
  imod (close_cell m (recvCell c 2) (K (c, iRecv 2))) $$ [Pr2] with Zr2
  · isplitr; · iexact HIr2
    iexact Pr2
  ihave ⟨#HIs3, -⟩ := (record_send m K c 3) $$ Hrec
  imod (close_cell m (sendCell c 3) (K (c, iSend 3))) $$ [Ps3] with Zs3
  · isplitr; · iexact HIs3
    iexact Ps3
  ihave ⟨#HIr3, -⟩ := (record_recv m K c 3) $$ Hrec
  imod (close_cell m (recvCell c 3) (K (c, iRecv 3))) $$ [Pr3] with Zr3
  · isplitr; · iexact HIr3
    iexact Pr3
  ihave ⟨#HIs4, -⟩ := (record_send m K c 4) $$ Hrec
  imod (close_cell m (sendCell c 4) (K (c, iSend 4))) $$ [Ps4] with Zs4
  · isplitr; · iexact HIs4
    iexact Ps4
  ihave ⟨#HIr4, -⟩ := (record_recv m K c 4) $$ Hrec
  imod (close_cell m (recvCell c 4) (K (c, iRecv 4))) $$ [Pr4] with Zr4
  · isplitr; · iexact HIr4
    iexact Pr4
  ihave ⟨#HIs5, -⟩ := (record_send m K c 5) $$ Hrec
  imod (close_cell m (sendCell c 5) (K (c, iSend 5))) $$ [Ps5] with Zs5
  · isplitr; · iexact HIs5
    iexact Ps5
  ihave ⟨#HIr5, -⟩ := (record_recv m K c 5) $$ Hrec
  imod (close_cell m (recvCell c 5) (K (c, iRecv 5))) $$ [Pr5] with Zr5
  · isplitr; · iexact HIr5
    iexact Pr5
  rw [wp_ret]; imodintro
  iapply HQ
  iexists _
  isplitl [HO]; · iexact HO
  unfold finish closed sems scratch arrays'
  simp only [sep_three, sep_four, sep_six, sep_nine]
  isplitl [Zb Zs0 Zs1 Zs2 Zs3 Zs4 Zs5 Zr0 Zr1 Zr2 Zr3 Zr4 Zr5]
  · isplitl [Zb]
    · iexact Zb
    isplitl [Zs0 Zs1 Zs2 Zs3 Zs4 Zs5]
    · isplitl [Zs0]
      · iexact Zs0
      isplitl [Zs1]
      · iexact Zs1
      isplitl [Zs2]
      · iexact Zs2
      isplitl [Zs3]
      · iexact Zs3
      isplitl [Zs4]
      · iexact Zs4
      iexact Zs5
    isplitl [Zr0]
    · iexact Zr0
    isplitl [Zr1]
    · iexact Zr1
    isplitl [Zr2]
    · iexact Zr2
    isplitl [Zr3]
    · iexact Zr3
    isplitl [Zr4]
    · iexact Zr4
    iexact Zr5
  isplitl [Hs0 Hs1 Hs2 Hs3 Hs4 Hs5 Hs6 Hs7 Hs8]
  · isplitl [Hs0]
    · iexact Hs0
    isplitl [Hs1]
    · iexact Hs1
    isplitl [Hs2]
    · iexact Hs2
    isplitl [Hs3]
    · iexact Hs3
    isplitl [Hs4]
    · iexact Hs4
    isplitl [Hs5]
    · iexact Hs5
    isplitl [Hs6]
    · iexact Hs6
    isplitl [Hs7]
    · iexact Hs7
    iexact Hs8
  isplitl [HxM Hw0 Hw1 Hw2 Hw3 Hg0 Hg1 Hg2 Hg3 HU0 HU1 HU2 HV0 HV1 HV2 HU3 HU4 HU5 HV3 HV4 HV5]
  · isplitl [HxM]
    · iexists _; iexact HxM
    isplitl [Hw0 Hw1 Hw2 Hw3]
    · isplitl [Hw0]
      · iexists _; iexact Hw0
      isplitl [Hw1]
      · iexists _; iexact Hw1
      isplitl [Hw2]
      · iexists _; iexact Hw2
      iexists _; iexact Hw3
    isplitl [Hg0 Hg1 Hg2 Hg3]
    · isplitl [Hg0]
      · iexists _; iexact Hg0
      isplitl [Hg1]
      · iexists _; iexact Hg1
      isplitl [Hg2]
      · iexists _; iexact Hg2
      iexists _; iexact Hg3
    isplitl [HU0 HU1 HU2]
    · isplitl [HU0]
      · iexact HU0
      isplitl [HU1]
      · iexact HU1
      iexact HU2
    isplitl [HV0 HV1 HV2]
    · isplitl [HV0]
      · iexists _; iexact HV0
      isplitl [HV1]
      · iexists _; iexact HV1
      iexists _; iexact HV2
    isplitl [HU3 HU4 HU5]
    · isplitl [HU3]
      · iexact HU3
      isplitl [HU4]
      · iexact HU4
      iexact HU5
    isplitl [HV3]
    · iexists _; iexact HV3
    isplitl [HV4]
    · iexists _; iexact HV4
    iexists _; iexact HV5
  isplitl [HxA]
  · iexact HxA
  isplitl [HwA]
  · iexact HwA
  isplitl [Ho0]
  · iexact Ho0
  isplitl [Ho1]
  · iexact Ho1
  isplitl [Ho2]
  · iexact Ho2
  iexact Ho3

end Cert.Exchange
-- ==== Proof.Pieces.lean ====
/-
# Buffers and their pieces

The launch deals out whole buffers; the body works with slots, halves and row blocks of them. A buffer held whole is
held in its pieces, and back, because the pieces are disjoint and cover it.
-/
module

public import proofs.«01_k».proof.Proof.Body
public import Idealize.ShloMosaic.Lib.Ring

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- A buffer held whole is held in the pieces that disjoint sets covering it name, -/
theorem split_of {n : ℕ} {ℓ : Loc nD τ sig} (I : Fin n → Finset (Idx ℓ)) (hd : ∀ a b, a ≠ b → Disjoint (I a) (I b))
    (hc : Finset.univ.biUnion I = Finset.univ) (Φ : Fin n → sProp (MT nD τ sig Unit (Elt F) ℕ UU ℕ))
    (h : ∀ s, (iprop(∃ f : Buf (Elt F) ℓ, ℓ ↦[I s]{fullShare} f) : sProp 𝕄) ⊢ Φ s) :
    iprop(∃ f : Buf (Elt F) ℓ, ℓ ↦{fullShare} f) ⊢ bigSep Finset.univ Φ := by
  refine exists_elim fun f => ?_
  rw [Ring.pointsTo_blocks (Ix := Unit) (Name := ℕ) (U := UU) (Lvl := ℕ) (q := fullShare) (ℓ := ℓ) I hd hc f]
  exact bigSep_mono fun s _ => (exists_intro (Φ := fun f : Buf (Elt F) ℓ => (ℓ ↦[I s]{fullShare} f : sProp 𝕄)) f).trans (h s)

/-- and back. -/
theorem join_of {n : ℕ} {ℓ : Loc nD τ sig} (I : Fin n → Finset (Idx ℓ)) (hd : ∀ a b, a ≠ b → Disjoint (I a) (I b))
    (hc : Finset.univ.biUnion I = Finset.univ) (Φ : Fin n → sProp (MT nD τ sig Unit (Elt F) ℕ UU ℕ)) (f₀ : Buf (Elt F) ℓ)
    (h : ∀ s, Φ s ⊢ (iprop(∃ f : Buf (Elt F) ℓ, ℓ ↦[I s]{fullShare} f) : sProp 𝕄)) :
    bigSep Finset.univ Φ ⊢ iprop(∃ f : Buf (Elt F) ℓ, ℓ ↦{fullShare} f) :=
  (bigSep_mono fun s _ => h s).trans
    (Ring.pointsTo_blocks_join_exists (Ix := Unit) (Name := ℕ) (U := UU) (Lvl := ℕ) (q := fullShare) (ℓ := ℓ) I hd hc f₀)

/-! ## Slots of the three buffers -/

theorem disjoint_of_label {α : Type} [DecidableEq α] {n : ℕ} {I : Fin n → Finset α} (l : α → ℕ) (h : ∀ s i, i ∈ I s ↔ l i = s.val) :
    ∀ a b, a ≠ b → Disjoint (I a) (I b) := fun a b hab =>
  Finset.disjoint_left.mpr fun i ha hb => hab (Fin.ext (((h a i).mp ha).symm.trans ((h b i).mp hb)))
theorem cover_of_label {α : Type} [DecidableEq α] [Fintype α] {n : ℕ} {I : Fin n → Finset α} (l : α → ℕ) (h : ∀ s i, i ∈ I s ↔ l i = s.val)
    (hl : ∀ i, l i < n) : Finset.univ.biUnion I = Finset.univ := by
  ext i
  simp only [Finset.mem_biUnion, Finset.mem_univ, true_and, iff_true]
  exact ⟨⟨l i, hl i⟩, (h _ i).mpr rfl⟩

set_option backward.proofsInPublic true in
def cutB (s : Fin 3) : Finset S3x512x512.Idx := (Rect.unit (s := S3x512x512) ![s.val, 0, 0] S1x512x512.size (by revert s; decide)).set
set_option backward.proofsInPublic true in
def cutS (s : Fin 3) : Finset S3x8x128.Idx := (Rect.unit (s := S3x8x128) ![s.val, 0, 0] S1x8x128.size (by revert s; decide)).set
set_option backward.proofsInPublic true in
def cutT (s : Fin 4) : Finset S4x512x512.Idx := (Rect.unit (s := S4x512x512) ![s.val, 0, 0] S1x512x512.size (by revert s; decide)).set
set_option backward.proofsInPublic true in
def cutW (j : Fin 4) : Finset S2x2048x512.Idx := (Rect.unit (s := S2x2048x512) ![j.val / 2, 1024 * (j.val % 2), 0] S1x1024x512.size (by revert j; decide)).set
/-- The device whose block a row block of the result is. -/
def rowDev (c : Dev nD) : Fin 4 → Dev nD
  | 0 => source 0 c
  | 1 => source 1 c
  | 2 => source 2 c
  | 3 => c
theorem rowDev_injective (c : Dev nD) : Function.Injective (rowDev c) := by revert c; decide
theorem rowDev_surjective (c d : Dev nD) : ∃ j, rowDev c j = d := by revert c d; decide

set_option backward.proofsInPublic true in
def cutO (c : Dev nD) (j : Fin 4) : Finset S2048x512.Idx :=
  (Rect.unit (s := S2048x512) ![512 * (rowDev c j).val, 0] S512x512.size (by revert c j; decide)).set

theorem mem_cutB (s : Fin 3) (i : S3x512x512.Idx) : i ∈ cutB s ↔ (i 0).val = s.val := by
  unfold cutB
  rw [Rect.mem_set_unit]
  have h1 : (i 1).val < 512 := (i 1).isLt
  have h2 : (i 2).val < 512 := (i 2).isLt
  constructor
  · intro h; have h0 : s.val ≤ (i 0).val ∧ (i 0).val < s.val + 1 := h 0; omega
  · intro h a; fin_cases a
    · show s.val ≤ (i 0).val ∧ (i 0).val < s.val + 1; omega
    · show 0 ≤ (i 1).val ∧ (i 1).val < 0 + 512; omega
    · show 0 ≤ (i 2).val ∧ (i 2).val < 0 + 512; omega
theorem mem_cutS (s : Fin 3) (i : S3x8x128.Idx) : i ∈ cutS s ↔ (i 0).val = s.val := by
  unfold cutS
  rw [Rect.mem_set_unit]
  have h1 : (i 1).val < 8 := (i 1).isLt
  have h2 : (i 2).val < 128 := (i 2).isLt
  constructor
  · intro h; have h0 : s.val ≤ (i 0).val ∧ (i 0).val < s.val + 1 := h 0; omega
  · intro h a; fin_cases a
    · show s.val ≤ (i 0).val ∧ (i 0).val < s.val + 1; omega
    · show 0 ≤ (i 1).val ∧ (i 1).val < 0 + 8; omega
    · show 0 ≤ (i 2).val ∧ (i 2).val < 0 + 128; omega
theorem mem_cutT (s : Fin 4) (i : S4x512x512.Idx) : i ∈ cutT s ↔ (i 0).val = s.val := by
  unfold cutT
  rw [Rect.mem_set_unit]
  have h1 : (i 1).val < 512 := (i 1).isLt
  have h2 : (i 2).val < 512 := (i 2).isLt
  constructor
  · intro h; have h0 : s.val ≤ (i 0).val ∧ (i 0).val < s.val + 1 := h 0; omega
  · intro h a; fin_cases a
    · show s.val ≤ (i 0).val ∧ (i 0).val < s.val + 1; omega
    · show 0 ≤ (i 1).val ∧ (i 1).val < 0 + 512; omega
    · show 0 ≤ (i 2).val ∧ (i 2).val < 0 + 512; omega
theorem mem_cutW (j : Fin 4) (i : S2x2048x512.Idx) : i ∈ cutW j ↔ 2 * (i 0).val + (i 1).val / 1024 = j.val := by
  unfold cutW
  rw [Rect.mem_set_unit]
  have h1 : (i 1).val < 2048 := (i 1).isLt
  have h2 : (i 2).val < 512 := (i 2).isLt
  have hj := j.isLt
  constructor
  · intro h
    have h0 : j.val / 2 ≤ (i 0).val ∧ (i 0).val < j.val / 2 + 1 := h 0
    have h1 : 1024 * (j.val % 2) ≤ (i 1).val ∧ (i 1).val < 1024 * (j.val % 2) + 1024 := h 1
    omega
  · intro h a; fin_cases a
    · show j.val / 2 ≤ (i 0).val ∧ (i 0).val < j.val / 2 + 1; omega
    · show 1024 * (j.val % 2) ≤ (i 1).val ∧ (i 1).val < 1024 * (j.val % 2) + 1024; omega
    · show 0 ≤ (i 2).val ∧ (i 2).val < 0 + 512; omega
theorem mem_cutO (c : Dev nD) (j : Fin 4) (i : S2048x512.Idx) : i ∈ cutO c j ↔ (i 0).val / 512 = (rowDev c j).val := by
  unfold cutO
  rw [Rect.mem_set_unit]
  have h1 : (i 1).val < 512 := (i 1).isLt
  constructor
  · intro h; have h0 : 512 * (rowDev c j).val ≤ (i 0).val ∧ (i 0).val < 512 * (rowDev c j).val + 512 := h 0; omega
  · intro h a; fin_cases a
    · show 512 * (rowDev c j).val ≤ (i 0).val ∧ (i 0).val < 512 * (rowDev c j).val + 512; omega
    · show 0 ≤ (i 1).val ∧ (i 1).val < 0 + 512; omega

theorem cutB_disjoint : ∀ a b, a ≠ b → Disjoint (cutB a) (cutB b) := disjoint_of_label (fun i => (i 0).val) mem_cutB
theorem cutB_cover : Finset.univ.biUnion cutB = Finset.univ := cover_of_label (fun i => (i 0).val) mem_cutB fun i => (i 0).isLt
theorem cutS_disjoint : ∀ a b, a ≠ b → Disjoint (cutS a) (cutS b) := disjoint_of_label (fun i => (i 0).val) mem_cutS
theorem cutS_cover : Finset.univ.biUnion cutS = Finset.univ := cover_of_label (fun i => (i 0).val) mem_cutS fun i => (i 0).isLt
theorem cutT_disjoint : ∀ a b, a ≠ b → Disjoint (cutT a) (cutT b) := disjoint_of_label (fun i => (i 0).val) mem_cutT
theorem cutT_cover : Finset.univ.biUnion cutT = Finset.univ := cover_of_label (fun i => (i 0).val) mem_cutT fun i => (i 0).isLt
theorem cutW_disjoint : ∀ a b, a ≠ b → Disjoint (cutW a) (cutW b) := disjoint_of_label (fun i => 2 * (i 0).val + (i 1).val / 1024) mem_cutW
theorem cutW_cover : Finset.univ.biUnion cutW = Finset.univ := cover_of_label (fun i => 2 * (i 0).val + (i 1).val / 1024) mem_cutW fun i => by
  have h0 : (i 0).val < 2 := (i 0).isLt
  have h1 : (i 1).val < 2048 := (i 1).isLt
  omega
theorem cutO_disjoint (c : Dev nD) : ∀ a b, a ≠ b → Disjoint (cutO c a) (cutO c b) := fun a b hab =>
  Finset.disjoint_left.mpr fun i ha hb => hab (rowDev_injective c (Fin.ext (((mem_cutO c a i).mp ha).symm.trans ((mem_cutO c b i).mp hb))))
theorem cutO_cover (c : Dev nD) : Finset.univ.biUnion (cutO c) = Finset.univ := by
  ext i
  simp only [Finset.mem_biUnion, Finset.mem_univ, true_and, iff_true]
  have h0 : (i 0).val < 2048 := (i 0).isLt
  obtain ⟨j, hj⟩ := rowDev_surjective c ⟨(i 0).val / 512, by show _ < 4; omega⟩
  exact ⟨j, (mem_cutO c j i).mpr (congrArg Fin.val hj).symm⟩

theorem sndM_set (c : Dev nD) (s : Fin 3) : (iprop(∃ f, pts (slotB sndM s) c f) : sProp 𝕄)
    = iprop(∃ f : Buf (Elt F) ((c : Thread nD τ).loc cc0_scratch3), ((c : Thread nD τ).loc cc0_scratch3) ↦[cutB s]{fullShare} f) := by
  fin_cases s <;> exact congrArg (fun S => iprop(∃ f : Buf (Elt F) ((c : Thread nD τ).loc cc0_scratch3), ((c : Thread nD τ).loc cc0_scratch3) ↦[S]{fullShare} f))
    ((View.set_reshape _ _).trans (View.set_slice_whole _ _))
theorem rcvM_set (c : Dev nD) (s : Fin 3) : (iprop(∃ f, pts (slotB rcvM s) c f) : sProp 𝕄)
    = iprop(∃ f : Buf (Elt F) ((c : Thread nD τ).loc cc0_scratch4), ((c : Thread nD τ).loc cc0_scratch4) ↦[cutB s]{fullShare} f) := by
  fin_cases s <;> exact congrArg (fun S => iprop(∃ f : Buf (Elt F) ((c : Thread nD τ).loc cc0_scratch4), ((c : Thread nD τ).loc cc0_scratch4) ↦[S]{fullShare} f))
    ((View.set_reshape _ _).trans (View.set_slice_whole _ _))
theorem ssM_set (c : Dev nD) (s : Fin 3) : (iprop(∃ f, pts (slotS ssM s) c f) : sProp 𝕄)
    = iprop(∃ f : Buf (Elt F) ((c : Thread nD τ).loc cc0_scratch5), ((c : Thread nD τ).loc cc0_scratch5) ↦[cutS s]{fullShare} f) := by
  fin_cases s <;> exact congrArg (fun S => iprop(∃ f : Buf (Elt F) ((c : Thread nD τ).loc cc0_scratch5), ((c : Thread nD τ).loc cc0_scratch5) ↦[S]{fullShare} f))
    ((View.set_reshape _ _).trans (View.set_slice_whole _ _))
theorem srM_set (c : Dev nD) (s : Fin 3) : (iprop(∃ f, pts (slotS srM s) c f) : sProp 𝕄)
    = iprop(∃ f : Buf (Elt F) ((c : Thread nD τ).loc cc0_scratch6), ((c : Thread nD τ).loc cc0_scratch6) ↦[cutS s]{fullShare} f) := by
  fin_cases s <;> exact congrArg (fun S => iprop(∃ f : Buf (Elt F) ((c : Thread nD τ).loc cc0_scratch6), ((c : Thread nD τ).loc cc0_scratch6) ↦[S]{fullShare} f))
    ((View.set_reshape _ _).trans (View.set_slice_whole _ _))
theorem stPc_set (c : Dev nD) (s : Fin 4) : (iprop(∃ f, pts (stPc s) c f) : sProp 𝕄)
    = iprop(∃ f : Buf (Elt F) ((c : Thread nD τ).loc cc0_scratch2), ((c : Thread nD τ).loc cc0_scratch2) ↦[cutT s]{fullShare} f) := by
  fin_cases s <;> exact congrArg (fun S => iprop(∃ f : Buf (Elt F) ((c : Thread nD τ).loc cc0_scratch2), ((c : Thread nD τ).loc cc0_scratch2) ↦[S]{fullShare} f))
    ((View.set_reshape _ _).trans (View.set_slice_whole _ _))
theorem wPc_set (c : Dev nD) (s : Fin 4) : (iprop(∃ f, pts (wPc s) c f) : sProp 𝕄)
    = iprop(∃ f : Buf (Elt F) ((c : Thread nD τ).loc cc0_scratch1), ((c : Thread nD τ).loc cc0_scratch1) ↦[cutW s]{fullShare} f) := by
  fin_cases s <;> exact congrArg (fun S => iprop(∃ f : Buf (Elt F) ((c : Thread nD τ).loc cc0_scratch1), ((c : Thread nD τ).loc cc0_scratch1) ↦[S]{fullShare} f))
    ((View.set_reshape _ _).trans (View.set_slice_whole _ _))

theorem off_row0 (c : Dev nD) : k0_off5 c = ![512 * (rowDev c 0).val, 0] := by revert c; decide
theorem off_row1 (c : Dev nD) : k0_off4 c 1#32 = ![512 * (rowDev c 1).val, 0] := by revert c; decide
theorem off_row2 (c : Dev nD) : k0_off4 c 2#32 = ![512 * (rowDev c 2).val, 0] := by revert c; decide
theorem off_row3 (c : Dev nD) : k0_off3 c = ![512 * (rowDev c 3).val, 0] := by revert c; decide

theorem set_unit_congr {s : Shape} {o o' : Fin s.rank → ℕ} {z : Fin s.rank → ℕ} (h : o = o') (hi) (hi') :
    (Rect.unit (s := s) o z hi).set = (Rect.unit (s := s) o' z hi').set := by subst h; rfl

theorem oPc_set (c : Dev nD) (j : Fin 4) : (iprop(∃ f, pts (oPc c j) c f) : sProp 𝕄)
    = iprop(∃ f : Buf (Elt F) ((c : Thread nD τ).loc main_v1), ((c : Thread nD τ).loc main_v1) ↦[cutO c j]{fullShare} f) := by
  fin_cases j
  · exact congrArg (fun S => iprop(∃ f : Buf (Elt F) ((c : Thread nD τ).loc main_v1), ((c : Thread nD τ).loc main_v1) ↦[S]{fullShare} f))
      ((View.set_slice_whole _ _).trans (set_unit_congr (off_row0 c) _ _))
  · exact congrArg (fun S => iprop(∃ f : Buf (Elt F) ((c : Thread nD τ).loc main_v1), ((c : Thread nD τ).loc main_v1) ↦[S]{fullShare} f))
      ((View.set_slice_whole _ _).trans (set_unit_congr (off_row1 c) _ _))
  · exact congrArg (fun S => iprop(∃ f : Buf (Elt F) ((c : Thread nD τ).loc main_v1), ((c : Thread nD τ).loc main_v1) ↦[S]{fullShare} f))
      ((View.set_slice_whole _ _).trans (set_unit_congr (off_row2 c) _ _))
  · exact congrArg (fun S => iprop(∃ f : Buf (Elt F) ((c : Thread nD τ).loc main_v1), ((c : Thread nD τ).loc main_v1) ↦[S]{fullShare} f))
      ((View.set_slice_whole _ _).trans (set_unit_congr (off_row3 c) _ _))

/-! ## A device's scratch and result -/

/-- Some contents of each scratch buffer of a device, as the launch deals them out. -/
def buffers (c : Dev nD) : sProp (MT nD τ sig Unit (Elt F) ℕ UU ℕ) :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))

theorem pts_whole (b : Ref sig .tc) (c : Dev nD) (f : Buf (Elt F) ((c : Thread nD τ).loc b)) :
    (pts (Memref.whole b) c f : sProp 𝕄) = (((c : Thread nD τ).loc b) ↦{fullShare} f) :=
  congrArg (fun S => ((((c : Thread nD τ).loc b) ↦[S]{fullShare} f : sProp 𝕄))) (View.set_whole b)

theorem xM_set (c : Dev nD) : (iprop(∃ f, pts xM c f) : sProp 𝕄)
    = iprop(∃ f : Buf (Elt F) ((c : Thread nD τ).loc cc0_scratch0), ((c : Thread nD τ).loc cc0_scratch0) ↦{fullShare} f) :=
  congrArg (fun S => iprop(∃ f : Buf (Elt F) ((c : Thread nD τ).loc cc0_scratch0), ((c : Thread nD τ).loc cc0_scratch0) ↦[S]{fullShare} f))
    (View.set_whole cc0_scratch0)

theorem w_split (c : Dev nD) : (iprop(∃ f : Buf (Elt F) ((c : Thread nD τ).loc cc0_scratch1), ((c : Thread nD τ).loc cc0_scratch1) ↦{fullShare} f) : sProp 𝕄) ⊢ bigSep Finset.univ fun j => iprop(∃ f, pts (wPc j) c f) := by
  refine split_of (ℓ := (c : Thread nD τ).loc cc0_scratch1) cutW cutW_disjoint cutW_cover (fun j => iprop(∃ f, pts (wPc j) c f)) fun s => ?_
  rw [wPc_set c s]
theorem w_join (m : (ℓ : Loc nD τ sig) → Buf (Elt F) ℓ) (c : Dev nD) : (bigSep Finset.univ fun j => iprop(∃ f, pts (wPc j) c f) : sProp 𝕄) ⊢ iprop(∃ f : Buf (Elt F) ((c : Thread nD τ).loc cc0_scratch1), ((c : Thread nD τ).loc cc0_scratch1) ↦{fullShare} f) := by
  refine join_of (ℓ := (c : Thread nD τ).loc cc0_scratch1) cutW cutW_disjoint cutW_cover (fun j => iprop(∃ f, pts (wPc j) c f)) (m _) fun s => ?_
  rw [wPc_set c s]
theorem st_split (c : Dev nD) : (iprop(∃ f : Buf (Elt F) ((c : Thread nD τ).loc cc0_scratch2), ((c : Thread nD τ).loc cc0_scratch2) ↦{fullShare} f) : sProp 𝕄) ⊢ bigSep Finset.univ fun j => iprop(∃ f, pts (stPc j) c f) := by
  refine split_of (ℓ := (c : Thread nD τ).loc cc0_scratch2) cutT cutT_disjoint cutT_cover (fun j => iprop(∃ f, pts (stPc j) c f)) fun s => ?_
  rw [stPc_set c s]
theorem st_join (m : (ℓ : Loc nD τ sig) → Buf (Elt F) ℓ) (c : Dev nD) : (bigSep Finset.univ fun j => iprop(∃ f, pts (stPc j) c f) : sProp 𝕄) ⊢ iprop(∃ f : Buf (Elt F) ((c : Thread nD τ).loc cc0_scratch2), ((c : Thread nD τ).loc cc0_scratch2) ↦{fullShare} f) := by
  refine join_of (ℓ := (c : Thread nD τ).loc cc0_scratch2) cutT cutT_disjoint cutT_cover (fun j => iprop(∃ f, pts (stPc j) c f)) (m _) fun s => ?_
  rw [stPc_set c s]
theorem snd_split (c : Dev nD) : (iprop(∃ f : Buf (Elt F) ((c : Thread nD τ).loc cc0_scratch3), ((c : Thread nD τ).loc cc0_scratch3) ↦{fullShare} f) : sProp 𝕄) ⊢ bigSep Finset.univ fun j => iprop(∃ f, pts (slotB sndM j) c f) := by
  refine split_of (ℓ := (c : Thread nD τ).loc cc0_scratch3) cutB cutB_disjoint cutB_cover (fun j => iprop(∃ f, pts (slotB sndM j) c f)) fun s => ?_
  rw [sndM_set c s]
theorem snd_join (m : (ℓ : Loc nD τ sig) → Buf (Elt F) ℓ) (c : Dev nD) : (bigSep Finset.univ fun j => iprop(∃ f, pts (slotB sndM j) c f) : sProp 𝕄) ⊢ iprop(∃ f : Buf (Elt F) ((c : Thread nD τ).loc cc0_scratch3), ((c : Thread nD τ).loc cc0_scratch3) ↦{fullShare} f) := by
  refine join_of (ℓ := (c : Thread nD τ).loc cc0_scratch3) cutB cutB_disjoint cutB_cover (fun j => iprop(∃ f, pts (slotB sndM j) c f)) (m _) fun s => ?_
  rw [sndM_set c s]
theorem rcv_split (c : Dev nD) : (iprop(∃ f : Buf (Elt F) ((c : Thread nD τ).loc cc0_scratch4), ((c : Thread nD τ).loc cc0_scratch4) ↦{fullShare} f) : sProp 𝕄) ⊢ bigSep Finset.univ fun j => iprop(∃ f, pts (slotB rcvM j) c f) := by
  refine split_of (ℓ := (c : Thread nD τ).loc cc0_scratch4) cutB cutB_disjoint cutB_cover (fun j => iprop(∃ f, pts (slotB rcvM j) c f)) fun s => ?_
  rw [rcvM_set c s]
theorem rcv_join (m : (ℓ : Loc nD τ sig) → Buf (Elt F) ℓ) (c : Dev nD) : (bigSep Finset.univ fun j => iprop(∃ f, pts (slotB rcvM j) c f) : sProp 𝕄) ⊢ iprop(∃ f : Buf (Elt F) ((c : Thread nD τ).loc cc0_scratch4), ((c : Thread nD τ).loc cc0_scratch4) ↦{fullShare} f) := by
  refine join_of (ℓ := (c : Thread nD τ).loc cc0_scratch4) cutB cutB_disjoint cutB_cover (fun j => iprop(∃ f, pts (slotB rcvM j) c f)) (m _) fun s => ?_
  rw [rcvM_set c s]
theorem ss_split (c : Dev nD) : (iprop(∃ f : Buf (Elt F) ((c : Thread nD τ).loc cc0_scratch5), ((c : Thread nD τ).loc cc0_scratch5) ↦{fullShare} f) : sProp 𝕄) ⊢ bigSep Finset.univ fun j => iprop(∃ f, pts (slotS ssM j) c f) := by
  refine split_of (ℓ := (c : Thread nD τ).loc cc0_scratch5) cutS cutS_disjoint cutS_cover (fun j => iprop(∃ f, pts (slotS ssM j) c f)) fun s => ?_
  rw [ssM_set c s]
theorem ss_join (m : (ℓ : Loc nD τ sig) → Buf (Elt F) ℓ) (c : Dev nD) : (bigSep Finset.univ fun j => iprop(∃ f, pts (slotS ssM j) c f) : sProp 𝕄) ⊢ iprop(∃ f : Buf (Elt F) ((c : Thread nD τ).loc cc0_scratch5), ((c : Thread nD τ).loc cc0_scratch5) ↦{fullShare} f) := by
  refine join_of (ℓ := (c : Thread nD τ).loc cc0_scratch5) cutS cutS_disjoint cutS_cover (fun j => iprop(∃ f, pts (slotS ssM j) c f)) (m _) fun s => ?_
  rw [ssM_set c s]
theorem sr_split (c : Dev nD) : (iprop(∃ f : Buf (Elt F) ((c : Thread nD τ).loc cc0_scratch6), ((c : Thread nD τ).loc cc0_scratch6) ↦{fullShare} f) : sProp 𝕄) ⊢ bigSep Finset.univ fun j => iprop(∃ f, pts (slotS srM j) c f) := by
  refine split_of (ℓ := (c : Thread nD τ).loc cc0_scratch6) cutS cutS_disjoint cutS_cover (fun j => iprop(∃ f, pts (slotS srM j) c f)) fun s => ?_
  rw [srM_set c s]
theorem sr_join (m : (ℓ : Loc nD τ sig) → Buf (Elt F) ℓ) (c : Dev nD) : (bigSep Finset.univ fun j => iprop(∃ f, pts (slotS srM j) c f) : sProp 𝕄) ⊢ iprop(∃ f : Buf (Elt F) ((c : Thread nD τ).loc cc0_scratch6), ((c : Thread nD τ).loc cc0_scratch6) ↦{fullShare} f) := by
  refine join_of (ℓ := (c : Thread nD τ).loc cc0_scratch6) cutS cutS_disjoint cutS_cover (fun j => iprop(∃ f, pts (slotS srM j) c f)) (m _) fun s => ?_
  rw [srM_set c s]

theorem scratch_split (c : Dev nD) : (buffers c : sProp 𝕄) ⊢ scratch c := by
  unfold buffers scratch
  iintro ⟨H0, H1, H2, H3, H4, H5, H6⟩
  isplitl [H0]; · rw [xM_set c]; iexact H0
  isplitl [H1]; · iapply (w_split c); iexact H1
  isplitl [H2]; · iapply (st_split c); iexact H2
  isplitl [H3]; · iapply (snd_split c); iexact H3
  isplitl [H4]; · iapply (rcv_split c); iexact H4
  isplitl [H5]; · iapply (ss_split c); iexact H5
  iapply (sr_split c); iexact H6

theorem scratch_join (m : (ℓ : Loc nD τ sig) → Buf (Elt F) ℓ) (c : Dev nD) : (scratch c : sProp 𝕄) ⊢ buffers c := by
  unfold buffers scratch
  rw [xM_set c]
  iintro ⟨H0, H1, H2, H3, H4, H5, H6⟩
  isplitl [H0]; · iexact H0
  isplitl [H1]; · iapply (w_join m c); iexact H1
  isplitl [H2]; · iapply (st_join m c); iexact H2
  isplitl [H3]; · iapply (snd_join m c); iexact H3
  isplitl [H4]; · iapply (rcv_join m c); iexact H4
  isplitl [H5]; · iapply (ss_join m c); iexact H5
  iapply (sr_join m c); iexact H6

theorem result_split (c : Dev nD) (f : Buf (Elt F) ((c : Thread nD τ).loc main_v1)) :
    (((c : Thread nD τ).loc main_v1) ↦{fullShare} f : sProp 𝕄) ⊢ bigSep Finset.univ fun j => iprop(∃ f, pts (oPc c j) c f) :=
  BIBase.Entails.trans (exists_intro (Φ := fun f : Buf (Elt F) ((c : Thread nD τ).loc main_v1) => (((c : Thread nD τ).loc main_v1) ↦{fullShare} f : sProp 𝕄)) f) <| by
    refine split_of (ℓ := (c : Thread nD τ).loc main_v1) (cutO c) (cutO_disjoint c) (cutO_cover c) (fun j => iprop(∃ f, pts (oPc c j) c f)) fun j => ?_
    rw [oPc_set c j]

end Cert.Exchange
-- ==== Proof.Launch.lean ====
/-
# The launch of the four kernels, and their run

The launch allocates the protocol's cells, deals each device the tokens of the payments it makes, its places on its own
cells and the credit for what the others owe it, and splits its buffers into pieces. Run from there to the end, every
device's four row blocks read `outV`, its arguments are as they were, and every semaphore is at zero.
-/
module

public import proofs.«01_k».proof.Proof.Pieces
public import Idealize.ShloMosaic.Lib.Quiescent
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores, cells and tokens, counted -/

/-- Every DMA semaphore belongs to the kernel. -/
abbrev osem : DmaSem sig → SemLoc sig := fun q => .dma q

theorem ownSemFacts : Pipeline.OwnSemFacts cfg0.spec osem := by decide

/-- The DMA semaphores: nine for a device's own copies, six for its sends, six for its landings. -/
def dmaEquiv : Fin 9 ⊕ (Fin 6 ⊕ Fin 6) ≃ Fin 21 := (Equiv.sumCongr (Equiv.refl _) finSumFinEquiv).trans finSumFinEquiv
/-- The protocol's cells of a device: the barrier's, six for its sends, six for its landings. -/
def cellEquiv : Fin 1 ⊕ (Fin 6 ⊕ Fin 6) ≃ Fin 13 := (Equiv.sumCongr (Equiv.refl _) finSumFinEquiv).trans finSumFinEquiv
/-- The six transfers: three blocks and three scales. -/
def sixEquiv : Fin 3 ⊕ Fin 3 ≃ Fin 6 := finSumFinEquiv

set_option backward.proofsInPublic true in
theorem sep_dma (Φ : DmaSem sig → sProp (MT nD τ sig Unit (Elt F) ℕ UU ℕ)) :
    bigSep Finset.univ Φ = iprop((bigSep Finset.univ fun i : Fin 9 => Φ ⟨i.val, by show _ < 21; omega⟩)
      ∗ (bigSep Finset.univ fun k : Fin 6 => Φ (sendS k)) ∗ bigSep Finset.univ fun k : Fin 6 => Φ (recvS k)) := by
  have h : bigSep (Finset.univ : Finset (Fin 21)) Φ = _ := bigSep_univ_equiv dmaEquiv Φ
  refine h.trans ?_
  rw [bigSep_univ_sum, bigSep_univ_sum]
  have h1 : ∀ i : Fin 9, dmaEquiv (.inl i) = (⟨i.val, by omega⟩ : Fin 21) := by decide
  have h2 : ∀ k : Fin 6, dmaEquiv (.inr (.inl k)) = sendS k := by decide
  have h3 : ∀ k : Fin 6, dmaEquiv (.inr (.inr k)) = recvS k := by decide
  simp only [h1, h2, h3]
  rfl

theorem sep_cells (Φ : Fin 13 → sProp (MT nD τ sig Unit (Elt F) ℕ UU ℕ)) :
    bigSep Finset.univ Φ = iprop(Φ 0 ∗ (bigSep Finset.univ fun k : Fin 6 => Φ (iSend k)) ∗ bigSep Finset.univ fun k : Fin 6 => Φ (iRecv k)) := by
  rw [bigSep_univ_equiv cellEquiv Φ, bigSep_univ_sum, bigSep_univ_sum]
  have h1 : ∀ i : Fin 1, cellEquiv (.inl i) = 0 := by decide
  have h2 : ∀ k : Fin 6, cellEquiv (.inr (.inl k)) = iSend k := by decide
  have h3 : ∀ k : Fin 6, cellEquiv (.inr (.inr k)) = iRecv k := by decide
  simp only [h1, h2, h3]
  rw [bigSep_univ_eq_bigSepL [0] (by decide) (by decide), bigSepL_singleton]
  rfl

theorem sep_lohi (Φ : Fin 6 → sProp (MT nD τ sig Unit (Elt F) ℕ UU ℕ)) :
    bigSep Finset.univ Φ = iprop((bigSep Finset.univ fun s : Fin 3 => Φ (lo s)) ∗ bigSep Finset.univ fun s : Fin 3 => Φ (hi s)) := by
  rw [bigSep_univ_equiv sixEquiv Φ, bigSep_univ_sum]
  have h1 : ∀ s : Fin 3, sixEquiv (.inl s) = lo s := by decide
  have h2 : ∀ s : Fin 3, sixEquiv (.inr s) = hi s := by decide
  simp only [h1, h2]
  rfl

theorem kcell_injective : Function.Injective (kcell : Dev nD × Fin 13 → GSem nD τ sig) := by
  rintro ⟨c, k⟩ ⟨c', k'⟩ h
  have h1 : c = c' := by have := congrArg (fun g : GSem nD τ sig => g.1.1) h; exact this
  subst h1
  have h2 : csem k = csem k' := congrArg Prod.snd h
  have h3 : ∀ k k' : Fin 13, csem k = csem k' → k = k' := by decide
  rw [h3 k k' h2]
def exCells : Finset (GSem nD τ sig) := Finset.univ.map ⟨kcell, kcell_injective⟩

/-- The duties of a device's cells: its barrier's three, its sends' six, its landings' six. -/
abbrev Duty : Type := Fin 3 ⊕ (Fin 6 ⊕ Fin 6)
abbrev dutySem : Duty → SemLoc sig × Fin 3
  | .inl s => (.reg barS, s)
  | .inr (.inl k) => (.dma (sendS k), 0)
  | .inr (.inr k) => (.dma (recvS k), 0)
abbrev tokOf (cj : Dev nD × Duty) : GSem nD τ sig × ℕ × Fin 3 := (((cj.1 : Thread nD τ), (dutySem cj.2).1), 0, (dutySem cj.2).2)
theorem dutySem_injective : ∀ j j' : Duty, dutySem j = dutySem j' → j = j' := by decide
theorem tokOf_injective : Function.Injective (tokOf : Dev nD × Duty → GSem nD τ sig × ℕ × Fin 3) := by
  rintro ⟨c, j⟩ ⟨c', j'⟩ h
  have h1 : c = c' := by have := congrArg (fun x : GSem nD τ sig × ℕ × Fin 3 => x.1.1.1) h; exact this
  subst h1
  have h2 : dutySem j = dutySem j' := congrArg (fun x : GSem nD τ sig × ℕ × Fin 3 => (x.1.2, x.2.2)) h
  rw [dutySem_injective j j' h2]
def exToks : Finset (GSem nD τ sig × ℕ × Fin 3) := Finset.univ.map ⟨tokOf, tokOf_injective⟩

def u₀ : UU :=
  (initOf (Pipeline.cells cfgs cellOf_inj) (Pipeline.launchToks cfgs cellOf_inj), (initOf exCells exToks, 1))

theorem ownU_split {A B C : Type} [URA A] [URA B] [URA C] (a : A) (b : B) :
    (ownU (a, (b, (1 : C))) : sProp (MT nD τ sig Unit (Elt F) ℕ (A × (B × C)) ℕ))
      ⊢ iprop(BI.own (embL a) ∗ BI.own (((Emb.inl : Emb B (B × C)).trans embR) b)) :=
  BI.own_op_elim ((uEmb (nD := nD) (sig := sig) (Ix := Unit) (Val := Elt F) (Name := ℕ) (U := A × (B × C)) (Lvl := ℕ)).toEmb.op_of_mem
    (Prod.mk_mem_op (URA.mem_op_one a) (URA.mem_one_op (b, (1 : C)))))

/-- The tokens of device `c`'s own cells. -/
def toks (c : Dev nD) : sProp (MT nD τ sig Unit (Elt F) ℕ UU ℕ) :=
  iprop((bigSep Finset.univ fun s : Fin 3 => dutyTok ER (barCell c) 0 s)
    ∗ (bigSep Finset.univ fun k : Fin 6 => dutyTok ER (sendCell c k) 0 0)
    ∗ (bigSep Finset.univ fun k : Fin 6 => dutyTok ER (recvCell c k) 0 0))

/-- What the launch deals device `c`, -/
def G (c : Dev nD) : sProp (MT nD τ sig Unit (Elt F) ℕ UU ℕ) :=
  iprop((bigSep Finset.univ fun k : Fin 13 => roundState ER (exRd m) (kcell (c, k)) 0)
    ∗ (bigSep Finset.univ fun k : Fin 13 => iprop(atPos ER (kcell (c, k)) 0 ∅ 0 ∗ reached ER (kcell (c, k)) 0)) ∗ toks c)

/-- and what it holds once the cells are allocated. -/
def G' (c : Dev nD) : sProp (MT nD τ sig Unit (Elt F) ℕ UU ℕ) :=
  iprop(∃ K, records m K ∗ tickets c ∗ places c ∗ sems c)

theorem fund_ex : BI.own (ER (initOf exCells exToks)) ⊢ (|==> bigSep Finset.univ (G m) : sProp 𝕄) := by
  have hX (Φ : GSem nD τ sig → sProp (MT nD τ sig Unit (Elt F) ℕ UU ℕ)) :
      bigSep exCells Φ = bigSep Finset.univ fun c : Dev nD => bigSep Finset.univ fun k : Fin 13 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum, bigSep_univ_sum]; rfl
  iintro HX
  imod (Rounds.fund ER (exRd m) exCells exToks) $$ HX with ⟨Hst, Hr, Hat, Htok⟩
  imodintro
  ihave Hst' := (Entails.of_eq (hX fun g => roundState ER (exRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(sems c ∗ (bigSep Finset.univ fun k : Fin 6 => semVal (sendCell c k) 0) ∗ bigSep Finset.univ fun k : Fin 6 => semVal (recvCell c k) 0) := by
  unfold Pipeline.ownSems0 sems
  exact sep_dma fun q => semVal ((c : Thread nD τ), .dma q) 0
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sep_kcells (c : Dev nD) (Φ : GSem nD τ sig → sProp (MT nD τ sig Unit (Elt F) ℕ UU ℕ)) :
    (bigSep Finset.univ fun k : Fin 13 => Φ (kcell (c, k)))
      = iprop(Φ (barCell c) ∗ (bigSep Finset.univ fun k : Fin 6 => Φ (sendCell c k)) ∗ bigSep Finset.univ fun k : Fin 6 => Φ (recvCell c k)) := by
  rw [sep_cells]; unfold kcell; simp only [csem_bar, csem_send, csem_recv]

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c ∗ sems c) := by
  rw [ownSems0_eq, unscopedSems0_eq]
  unfold G
  iintro ⟨⟨Hloc, Hsd, Hrv⟩, Hus, Hst, Hat, Htok⟩
  imod (show iprop((bigSep Finset.univ fun k : Fin 13 => semVal (kcell (c, k)) 0) ∗ bigSep Finset.univ fun k : Fin 13 => roundState ER (exRd m) (kcell (c, k)) 0)
      ⊢ (|={Set.univ}=> bigSep Finset.univ fun k => iprop(∃ κ : ℕ, cellInv ER (exRd m) κ (kcell (c, k))) : sProp 𝕄) from by
        rw [← bigSep_sep']
        exact (bigSep_mono fun k _ => (Rounds.body_intro ER (exRd m) (kcell (c, k))).trans inv_alloc).trans (bigSep_fupd _ _)) $$ [Hsd Hrv Hus Hst] with Hinv
  · isplitr [Hst]
    · rw [sep_kcells c fun g => semVal g 0]
      isplitl [Hus]; · iexact Hus
      isplitl [Hsd] <;> iassumption
    · iexact Hst
  imodintro
  isplitl [Hinv]; · iexact Hinv
  isplitl [Hat]; · iexact Hat
  isplitl [Htok]; · iexact Htok
  iexact Hloc

/-- The tokens dealt to those who pay: a barrier's token `s` to the device whose slot `s` its device writes, a landing's
    to the device it comes from. -/
theorem toks_around : (bigSep Finset.univ fun c : Dev nD => (toks c : sProp 𝕄)) ⊢ bigSep Finset.univ fun c : Dev nD => tickets c := by
  unfold toks tickets
  simp only [sep_lohi (F := F) (fun k => dutyTok ER (recvCell _ k) 0 0), sep_three, bigSep_sep']
  rw [bigSep_univ_equiv (route 0).symm (fun c : Dev nD => (dutyTok ER (barCell c) 0 0 : sProp 𝕄)),
    bigSep_univ_equiv (route 1).symm (fun c : Dev nD => (dutyTok ER (barCell c) 0 1 : sProp 𝕄)),
    bigSep_univ_equiv (route 2).symm (fun c : Dev nD => (dutyTok ER (barCell c) 0 2 : sProp 𝕄)),
    bigSep_univ_equiv (route 0) (fun c : Dev nD => (dutyTok ER (recvCell c (lo 0)) 0 0 : sProp 𝕄)),
    bigSep_univ_equiv (route 1) (fun c : Dev nD => (dutyTok ER (recvCell c (lo 1)) 0 0 : sProp 𝕄)),
    bigSep_univ_equiv (route 2) (fun c : Dev nD => (dutyTok ER (recvCell c (lo 2)) 0 0 : sProp 𝕄)),
    bigSep_univ_equiv (route 0) (fun c : Dev nD => (dutyTok ER (recvCell c (hi 0)) 0 0 : sProp 𝕄)),
    bigSep_univ_equiv (route 1) (fun c : Dev nD => (dutyTok ER (recvCell c (hi 1)) 0 0 : sProp 𝕄)),
    bigSep_univ_equiv (route 2) (fun c : Dev nD => (dutyTok ER (recvCell c (hi 2)) 0 0 : sProp 𝕄))]
  iintro ⟨⟨B0, B1, B2⟩, HS, ⟨L0, L1, L2⟩, H0, H1, H2⟩
  isplitl [B0 B1 B2]
  · isplitl [B0]; · iexact B0
    isplitl [B1]; · iexact B1
    iexact B2
  isplitl [HS]; · iexact HS
  isplitl [L0 L1 L2]
  · isplitl [L0]; · iexact L0
    isplitl [L1]; · iexact L1
    iexact L2
  isplitl [H0]; · iexact H0
  isplitl [H1]; · iexact H1
  iexact H2

theorem bigSep_with_persistent {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal (K : Dev nD × Fin 13 → ℕ) (c : Dev nD) :
    iprop(records m K ∗ ((bigSep Finset.univ fun k : Fin 13 => atPos ER (kcell (c, k)) 0 ∅ 0) ∗ tickets c ∗ sems c)) ⊢ G' m c := by
  unfold G' places
  rw [sep_kcells c fun g => atPos ER g 0 ∅ 0]
  iintro ⟨HR, Hp, Ht, Hs⟩
  iexists K
  isplitl [HR]; · iexact HR
  isplitl [Ht]; · iexact Ht
  isplitl [Hp]; · iexact Hp
  iexact Hs

theorem regroup :
    (bigSep Finset.univ fun c : Dev nD => iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c ∗ sems c) : sProp 𝕄)
      ⊢ bigSep Finset.univ (G' m) := by
  rw [bigSep_sep', bigSep_sep', bigSep_sep', ← bigSep_univ_prod (fun ck : Dev nD × Fin 13 => iprop(∃ κ : ℕ, cellInv ER (exRd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep', ← bigSep_univ_prod (fun ck : Dev nD × Fin 13 => (reached ER (kcell ck) 0 : sProp 𝕄))]
  iintro ⟨HI, ⟨Hat, HR⟩, Htok, Hs⟩
  ihave HK := (BI.bigSep_exists_pi Finset.univ (fun (ck : Dev nD × Fin 13) (κ : ℕ) => (cellInv ER (exRd m) κ (kcell ck) : sProp 𝕄))) $$ HI
  icases HK with ⟨%K, HI⟩
  ihave Htk := (toks_around (F := F)) $$ Htok
  iapply (bigSep_with_persistent (R := records m K) fun c _ => deal m K c)
  isplitl [HI HR]
  · unfold records; rw [bigSep_sep']
    isplitl [HI] <;> iassumption
  · rw [bigSep_sep', bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What each device is owed -/

theorem bar_iff (d c : Dev nD) (s : Fin 3) : barCell c = barCell (source s d) ↔ d = peer s c :=
  ⟨fun h => by
    have h1 : c = source s d := Fin.ext (congrArg (fun g : GSem nD τ sig => g.1.1.val) h)
    rw [h1, peer_source], fun h => by rw [h, source_peer]⟩
theorem recv_iff (d c : Dev nD) (k j : Fin 6) (s : Fin 3) : recvCell c k = recvCell (peer s d) j ↔ d = source s c ∧ k = j :=
  ⟨fun h => by
    have h1 : c = peer s d := Fin.ext (congrArg (fun g : GSem nD τ sig => g.1.1.val) h)
    have h2 : recvS k = recvS j := by injection congrArg Prod.snd h
    exact ⟨by rw [h1, source_peer], by rw [← ix_recv k, h2, ix_recv]⟩,
   fun ⟨h1, h2⟩ => by rw [h1, h2, peer_source]⟩
theorem bar_recv (c c' : Dev nD) (k : Fin 6) : barCell c = recvCell c' k ↔ False :=
  ⟨fun h => by injection congrArg Prod.snd h, False.elim⟩
theorem recv_bar (c c' : Dev nD) (k : Fin 6) : recvCell c k = barCell c' ↔ False :=
  ⟨fun h => by injection congrArg Prod.snd h, False.elim⟩

theorem owed_all (d : Dev nD) : O₀ d = 0 + tallyAt (recvCell (peer 1 d) (hi 1)) () NS + tallyAt (recvCell (peer 1 d) (lo 1)) () NB
    + tallyAt (recvCell (peer 0 d) (hi 0)) () NS + tallyAt (recvCell (peer 0 d) (lo 0)) () NB
    + tallyAt (recvCell (peer 2 d) (hi 2)) () NS + tallyAt (recvCell (peer 2 d) (lo 2)) () NB
    + tallyAt (barCell (source 2 d)) () 1 + tallyAt (barCell (source 1 d)) () 1 + tallyAt (barCell (source 0 d)) () 1 := rfl

theorem owed_bar (d c : Dev nD) :
    O₀ d (barCell c) () = (if d = peer 2 c then 1 else 0) + (if d = peer 1 c then 1 else 0) + (if d = peer 0 c then 1 else 0) := by
  rw [owed_all]
  simp only [Pi.add_apply, Finsupp.add_apply, tallyAt_apply, bar_iff, bar_recv, Pi.zero_apply, Finsupp.zero_apply, and_true, false_and, if_false, Nat.zero_add]

theorem owed_lo (d c : Dev nD) (s : Fin 3) : O₀ d (recvCell c (lo s)) () = if d = source s c then NB else 0 := by
  rw [owed_all]
  have h1 : ∀ s s' : Fin 3, lo s = hi s' ↔ False := by decide
  have h2 : ∀ s s' : Fin 3, lo s = lo s' ↔ s = s' := by decide
  simp only [Pi.add_apply, Finsupp.add_apply, tallyAt_apply, recv_iff, recv_bar, Pi.zero_apply, Finsupp.zero_apply, and_true, false_and, and_false, if_false,
    Nat.zero_add, Nat.add_zero, h1, h2]
  fin_cases s <;> simp

theorem owed_hi (d c : Dev nD) (s : Fin 3) : O₀ d (recvCell c (hi s)) () = if d = source s c then NS else 0 := by
  rw [owed_all]
  have h1 : ∀ s s' : Fin 3, hi s = lo s' ↔ False := by decide
  have h2 : ∀ s s' : Fin 3, hi s = hi s' ↔ s = s' := by decide
  simp only [Pi.add_apply, Finsupp.add_apply, tallyAt_apply, recv_iff, recv_bar, Pi.zero_apply, Finsupp.zero_apply, and_true, false_and, and_false, if_false,
    Nat.zero_add, Nat.add_zero, h1, h2]
  fin_cases s <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (peer 2 c) fun _ => 1, Finset.sum_ite_eq' Finset.univ (peer 1 c) fun _ => 1, Finset.sum_ite_eq' Finset.univ (peer 0 c) fun _ => 1,
    if_pos (Finset.mem_univ _), if_pos (Finset.mem_univ _), if_pos (Finset.mem_univ _)]

theorem launch_lo (c : Dev nD) (s : Fin 3) :
    tallyOn (recvCell c (lo s)) (launchCredit (Pipeline.owing O₀) 0 (recvCell c (lo s))) = (tallyAt (recvCell c (lo s)) () (credit (lo s)) : CellTallies nD τ sig Unit) := by
  unfold tallyAt; refine congrArg _ (Finsupp.ext fun u => ?_); cases u
  rw [Pipeline.launchCredit_owing, Finsupp.single_eq_same, Finset.sum_congr rfl fun d _ => owed_lo d c s, Finset.sum_ite_eq' Finset.univ (source s c) fun _ => NB,
    if_pos (Finset.mem_univ _), credit_lo]
theorem launch_hi (c : Dev nD) (s : Fin 3) :
    tallyOn (recvCell c (hi s)) (launchCredit (Pipeline.owing O₀) 0 (recvCell c (hi s))) = (tallyAt (recvCell c (hi s)) () (credit (hi s)) : CellTallies nD τ sig Unit) := by
  unfold tallyAt; refine congrArg _ (Finsupp.ext fun u => ?_); cases u
  rw [Pipeline.launchCredit_owing, Finsupp.single_eq_same, Finset.sum_congr rfl fun d _ => owed_hi d c s, Finset.sum_ite_eq' Finset.univ (source s c) fun _ => NS,
    if_pos (Finset.mem_univ _), credit_hi]

theorem creds (c : Dev nD) : (Pipeline.launchCred O₀ c : sProp 𝕄) ⊢ dues c := by
  have hs : (Finset.univ.map ⟨fun k : Fin 6 => (SemLoc.dma (recvS k) : SemLoc sig), fun a b h => by
      have h2 : recvS a = recvS b := by injection h
      rw [← ix_recv a, h2, ix_recv]⟩) ⊆ (Finset.univ : Finset (SemLoc sig)).erase (SemLoc.reg barS) := by decide
  unfold Pipeline.launchCred dues
  rw [bigSep_univ_at _ (SemLoc.reg barS), launch_bar]
  refine sep_mono_right ?_
  refine (bigSep_subset hs).trans ?_
  rw [bigSep_map, sep_lohi, sep_lohi]
  refine BI.sep_mono (bigSep_mono fun s _ => ?_) (bigSep_mono fun s _ => ?_)
  · exact Entails.of_eq (congrArg cred (launch_lo c s))
  · exact Entails.of_eq (congrArg cred (launch_hi c s))

/-! ## The launch theorem's conditions -/

def dats (_ : Fin 1) (c : Dev nD) : Dat τ (Elt F) Unit ℕ UU ℕ cfg0 c where
  A w := w.elim0
  after w _ := w.elim0
  Φ t := match t with
    | ⟨0, _⟩ => iprop(∃ K, start m K c)
    | ⟨_ + 1, _⟩ => finish m c
  q _ := fullShare
  owed t := match t with
    | ⟨0, _⟩ => O₀ c
    | ⟨_ + 1, _⟩ => 0

theorem sep_none (Φ : Fin cfg0.W → sProp (MT nD τ sig Unit (Elt F) ℕ UU ℕ)) : bigSep Finset.univ Φ = iprop(emp) := by
  rw [show (Finset.univ : Finset (Fin cfg0.W)) = ∅ from rfl]; exact bigSep_empty

theorem body_obligation (c : Dev nD) : BodyObligation (dats m 0 c) (defs₀ (F := F)) 𝒱₀ () Set.univ := fun t => by
  rw [fin_N0 t, sep_none, sep_none]
  show iprop((∃ K, start m K c) ∗ (dats m 0 c).owesAt () t0_0.castSucc ∗ emp)
    ⊢ wp frame (wpE (defs₀ (F := F)) 𝒱₀ c none) Set.univ (bodyAt0 (F := F) t0_0) (fun _ => iprop(finish m c ∗ (dats m 0 c).owesAt () t0_0.succ ∗ emp))
  iintro ⟨⟨%K, Hs⟩, ⟨%W, -, Ho⟩, -⟩
  iapply (body m K c t0_0 W)
  isplitl [Hs]; · iexact Hs
  isplitl [Ho]; · iexact Ho
  iintro ⟨%W', Ho, Hf⟩
  isplitl [Hf]; · iexact Hf
  isplitl [Ho]
  · iexists W'
    isplitr; · ipureintro; exact fun _ _ => Or.inl trivial
    iexact Ho
  iempintro

/-- What a device enters the kernel with, scratch apart. -/
def entry (c : Dev nD) : sProp (MT nD τ sig Unit (Elt F) ℕ UU ℕ) :=
  iprop(G' m c ∗ levAts L lv ∗ dues c ∗ arrays m c)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(entry m c ∗ emp) := by
  rw [Pipeline.unscopedRestP_none, unscopedRest0_eq]
  unfold entry arrays
  rw [pts_whole main_arg0 c, pts_whole main_arg1 c]
  iintro ⟨⟨Hx, Hw, Ho⟩, Hlev, Hcr, -, HG⟩
  ihave Hc := (creds (F := F) c) $$ Hcr
  ihave Ho' := (result_split c _) $$ Ho
  imodintro
  isplitl
  · isplitl [HG]; · iexact HG
    isplitl [Hlev]; · iexact Hlev
    isplitl [Hc]; · iexact Hc
    isplitl [Hx]; · iexact Hx
    isplitl [Hw]; · iexact Hw
    iexact Ho'
  · iempintro

theorem phi0_intro (c : Dev nD) :
    iprop(entry m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(∃ K, start m K c) from rfl, scopedRest0_eq]
  unfold entry G' start
  iintro ⟨⟨⟨%K, HR, Ht, Hp, Hs⟩, Hlev, Hd, Ha⟩, -, Hb⟩
  iexists K
  isplitl [HR]; · iexact HR
  isplitl [Hlev]; · iexact Hlev
  isplitl [Ht]; · iexact Ht
  isplitl [Hp]; · iexact Hp
  isplitl [Hd]; · iexact Hd
  isplitl [Hs]; · iexact Hs
  isplitl [Hb]
  · iapply (scratch_split c); unfold buffers; iexact Hb
  iexact Ha

theorem phi1_exit (c : Dev nD) :
    (dats m 0 c).Φ (Fin.last cfg0.N) ⊢ iprop((unscopedSems0 c ∗ arrays' m c) ∗ Pipeline.ownSems0 osem c ∗ Pipeline.scopedRest cfg0.spec c) := by
  rw [show (dats m 0 c).Φ (Fin.last cfg0.N) = finish m c from rfl, scopedRest0_eq, ownSems0_eq, unscopedSems0_eq]
  unfold finish closed
  iintro ⟨⟨Hb, Hsd, Hrv⟩, Hl, Hscr, Ha⟩
  isplitl [Hb Ha]
  · isplitl [Hb] <;> iassumption
  isplitl [Hl Hsd Hrv]
  · isplitl [Hl]; · iexact Hl
    isplitl [Hsd] <;> iassumption
  ihave H := (scratch_join m c) $$ Hscr
  unfold buffers; iexact H

theorem waits (c : Dev nD) : (levAts L lv : sProp 𝕄) ⊢ Pipeline.cellsWaits cfgs (dats m) () 0 c :=
  Pipeline.cellsWaits_intro cfgs (dats m) () 0 c fun w => w.elim0

/-- What a device's memory holds after the run. -/
def Holds (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ ∀ j, (oPc c j).view.read (Elt F) (s.mem ((oPc c j).view.loc (c : Thread nD τ))) = outV m c j

theorem read_piece {sp : Space} {s : Shape} {e : EltTy} (M : Memref sig .tc sp s e) (c : Dev nD) (v : s.Idx → Elt F e) (s' : Phys nD τ sig (Elt F)) :
    iprop(at_ M c v ∗ SI s') ⊢ (iprop(⌜M.view.read (Elt F) (s'.mem.mem (M.view.loc (c : Thread nD τ))) = v⌝ ∗ SI s') : sProp 𝕄) := by
  iintro ⟨Hi, HSI⟩
  icombine HSI Hi gives %h
  isplitr
  · ipureintro
    exact (View.read_congr (v := M.view) h).trans (View.read_rep M.view v)
  · iexact HSI
theorem read_whole (b : Ref sig .tc) (c : Dev nD) (f : Buf (Elt F) ((c : Thread nD τ).loc b)) (s' : Phys nD τ sig (Elt F)) :
    iprop(pts (Memref.whole b) c f ∗ SI s') ⊢ (iprop(⌜s'.mem.mem ((c : Thread nD τ).loc b) = f⌝ ∗ SI s') : sProp 𝕄) := by
  rw [pts_whole]
  iintro ⟨Hi, HSI⟩
  icombine HSI Hi gives %h
  isplitr
  · ipureintro; exact Buf.eq_of_forall_mem_univ h
  · iexact HSI

theorem read_arrays (c : Dev nD) (s' : Phys nD τ sig (Elt F)) :
    iprop(arrays' m c ∗ SI s') ⊢ (iprop(⌜Holds m c s'.mem⌝ ∗ SI s') : sProp 𝕄) := by
  unfold arrays'
  rw [sep_four]
  iintro ⟨⟨Hx, Hw, H0, H1, H2, H3⟩, HSI⟩
  ihave H := (read_whole main_arg0 c _ s') $$ [Hx HSI]
  · isplitl [Hx] <;> iassumption
  icases H with ⟨%hx, HSI⟩
  ihave H := (read_whole main_arg1 c _ s') $$ [Hw HSI]
  · isplitl [Hw] <;> iassumption
  icases H with ⟨%hw, HSI⟩
  ihave H := (read_piece (oPc c 0) c _ s') $$ [H0 HSI]
  · isplitl [H0] <;> iassumption
  icases H with ⟨%h0, HSI⟩
  ihave H := (read_piece (oPc c 1) c _ s') $$ [H1 HSI]
  · isplitl [H1] <;> iassumption
  icases H with ⟨%h1, HSI⟩
  ihave H := (read_piece (oPc c 2) c _ s') $$ [H2 HSI]
  · isplitl [H2] <;> iassumption
  icases H with ⟨%h2, HSI⟩
  ihave H := (read_piece (oPc c 3) c _ s') $$ [H3 HSI]
  · isplitl [H3] <;> iassumption
  icases H with ⟨%h3, HSI⟩
  isplitr
  · ipureintro
    exact ⟨hx, hw, fun j => match j with | 0 => h0 | 1 => h1 | 2 => h2 | 3 => h3⟩
  · iexact HSI

set_option maxRecDepth 8000 in
/-- At the mesh of four devices, for any float values, from any memory with zero counters: every weakly fair execution
    of the four kernels terminates, and every final state has each device's arguments as they were, the four row blocks of
    its result at `outV`, and every semaphore counter at zero. -/
theorem run_main : θ_run defs (onTc (τ := τ) (main (F := F))) (s₀ m ρ) (fun r => (∀ c, Holds m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_ex m) $$ HX with HG
      imodintro
      isplitl [HP] <;> iassumption)
    (hglob := glob m)
    (hA := fun _ w => w.elim0) (hpf := fun _ k => k.elim0)
    (X := entry m) (Y := fun c => iprop(unscopedSems0 c ∗ arrays' m c)) (Z := fun _ => iprop(emp))
    (hX := start_intro m ρ) (hin := phi0_intro m) (hout := phi1_exit m)
    (QY := fun c s => (∀ sm : SemLoc sig, sm.isScoped .tc = false → s.sem ((c.tc : Thread nD τ), sm) = 0) ∧ Holds m c s)
    (hY := fun c s' => by
      iintro ⟨⟨Hu, Ha⟩, -, HSI⟩
      ihave H := (read_arrays m c s') $$ [Ha HSI]
      · isplitl [Ha] <;> iassumption
      icases H with ⟨%h, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hu, h⟩
      iexact HSI)
    (hQ := fun _ h hs => ⟨fun c => (h c).2.2.2, sem_eq_zero hs fun c => (h c).2.2.1⟩)

end Cert.Exchange
-- ==== Proof.Frames.lean ====
/-
# The frames of the two kernels and of the reference

The program as printed and its reading at the ideal floats are one text; the run holds of it at any floats. The reference
is host operations alone.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Exchange

open Idealize.ShloMosaic Idealize.SL.Sem

/-- The kernel over the extended reals ends, its arguments unchanged and every counter zero. -/
theorem frame_ideal : Cert.quiescent_KernelIdeal (hKernelIdeal := Cert.KernelIdeal.Gen.facts) := fun m g _ =>
  (θ_run (Cert.KernelIdeal.defs (F := Ideal)) _ _).mono (fun _ h => ⟨fun c => ⟨(h.1 c).1, (h.1 c).2.1⟩, h.2⟩) (run_main (F := Ideal) m g)

/-- So does the kernel as printed. -/
theorem frame_bits : Cert.quiescent_Kernel (hKernel := Cert.Kernel.Gen.facts) := fun m g _ =>
  (θ_run (Cert.KernelIdeal.defs (F := Bits)) _ _).mono (fun _ h => ⟨fun c => ⟨(h.1 c).1, (h.1 c).2.1⟩, h.2⟩) (run_main (F := Bits) m g)

/-- And the reference, which has no semaphore. -/
theorem frame_reference : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩) (Cert.ReferenceIdeal.Value.run m g)

end Cert.Exchange
-- ==== Proof.Quant.lean ====
/-
# The int8 round trip, on one number

A block is sent as the int8 roundings of `y * (127 / a)`, where `a` bounds every `|y|` of the block and is at least a
positive constant. Those roundings lie in [-127, 127], so the cast to int8 and back changes nothing.
-/
module

public import Idealize.ShloMosaic.PureOps.Ideal.Laws

@[expose] public section

noncomputable section

namespace Cert.Exchange

open Idealize.ShloMosaic

/-- The f32 word of 127 is the number 127. -/
theorem word_127 : Ideal.ofBits .f32 0x42FE0000#32 = ((127 : ℝ) : EReal) := by
  simp [Ideal.ofBits, Ideal.ieee, -EReal.coe_mul]; norm_num

/-- The least scale the quantiser divides by, the f32 word nearest 1e-20. -/
def tiny : EReal := Ideal.ofBits .f32 0x1E3CE508#32

theorem tiny_pos : 0 < tiny := by
  unfold tiny
  simp [Ideal.ofBits, Ideal.ieee, -EReal.coe_mul]

/-- The f32 word nearest 1/127. -/
def inv127 : EReal := Ideal.ofBits .f32 0x3C010204#32

/-- The f32 word of −∞ is the least extended real. -/
theorem word_bot : Ideal.ofBits .f32 0xFF800000#32 = ⊥ := by simp [Ideal.ofBits, Ideal.ieee]

/-- What is rounded to an integer and sent: `y` scaled by `127 / a`, to nearest, ties to even. -/
def scaled (a y : EReal) : EReal := Ideal.liftRound Ideal.roundHalfEven (y * Ideal.div ((127 : ℝ) : EReal) a)

/-- What arrives for `y`. -/
def arrived (a y : EReal) : EReal := scaled a y * (a * inv127)

/-- Rounding keeps [-127, 127]. -/
theorem roundHalfEven_bounds {r : ℝ} (h1 : -127 ≤ r) (h2 : r ≤ 127) :
    -127 ≤ Ideal.roundHalfEven r ∧ Ideal.roundHalfEven r ≤ 127 := by
  have hf : -127 ≤ ⌊r⌋ := by rw [Int.le_floor]; exact_mod_cast h1
  have hl : (⌊r⌋ : ℝ) ≤ r := Int.floor_le r
  have hu : ⌊r⌋ ≤ 127 := by exact_mod_cast hl.trans h2
  unfold Ideal.roundHalfEven
  simp only
  split
  · exact ⟨hf, hu⟩
  · rename_i h
    have h3 : ⌊r⌋ + 1 ≤ 127 := by
      have : (⌊r⌋ : ℝ) < 127 := by linarith
      have : ⌊r⌋ < 127 := by exact_mod_cast this
      omega
    split
    · exact ⟨by omega, h3⟩
    · split
      · exact ⟨hf, hu⟩
      · exact ⟨by omega, h3⟩

/-- An integer of [-127, 127] goes through int8 unchanged. -/
theorem int8_round_trip {n : ℤ} (h1 : -127 ≤ n) (h2 : n ≤ 127) :
    (((Ideal.fptosi 8 (((n : ℝ)) : EReal)).toInt : ℝ) : EReal) = ((n : ℝ) : EReal) := by
  have h : (Ideal.fptosi 8 (((n : ℝ)) : EReal)).toInt = n := by
    unfold Ideal.fptosi
    rw [Ideal.toIntClamped_coe, Int.floor_intCast, Int.ceil_intCast, ite_self, BitVec.toInt_ofInt]
    norm_num
    rw [min_eq_right (by omega), max_eq_right (by omega)]
    exact Int.bmod_eq_of_le (by omega) (by omega)
  rw [h]

/-- So what arrives is what the scaled rounding says, for any `y` with `|y| ≤ a`. -/
theorem round_trip {a y : EReal} (ha : 0 < a) (hy : max y (-y) ≤ a) :
    (((Ideal.fptosi 8 (scaled a y)).toInt : ℝ) : EReal) = scaled a y := by
  suffices h : ∃ n : ℤ, scaled a y = ((n : ℝ) : EReal) ∧ -127 ≤ n ∧ n ≤ 127 by
    obtain ⟨n, hn, h1, h2⟩ := h
    rw [hn]; exact int8_round_trip h1 h2
  unfold scaled
  induction a with
  | bot => exact absurd ha (by simp)
  | top =>
    refine ⟨0, ?_, by norm_num, by norm_num⟩
    have h0 : Ideal.div ((127 : ℝ) : EReal) ⊤ = ((0 : ℝ) : EReal) := by simp [Ideal.div]
    rw [h0, EReal.coe_zero, mul_zero, ← EReal.coe_zero, Ideal.liftRound_coe]
    norm_num [Ideal.roundHalfEven]
  | coe a =>
    have ha' : 0 < a := by exact_mod_cast ha
    induction y with
    | bot => exact absurd hy (by simp)
    | top => exact absurd hy (by simp)
    | coe y =>
      have h1 : y ≤ a := by exact_mod_cast (le_max_left _ _).trans hy
      have h2 : -y ≤ a := by exact_mod_cast (le_max_right _ _).trans hy
      rw [Ideal.div_coe ha'.ne', ← EReal.coe_mul, ← EReal.coe_mul, Ideal.liftRound_coe]
      refine ⟨_, rfl, roundHalfEven_bounds ?_ ?_⟩
      · have : -a * (127 * (1 / a)) ≤ y * (127 * (1 / a)) := mul_le_mul_of_nonneg_right (by linarith) (by positivity)
        have e : -a * (127 * (1 / a)) = -127 := by field_simp
        linarith
      · have : y * (127 * (1 / a)) ≤ a * (127 * (1 / a)) := mul_le_mul_of_nonneg_right h1 (by positivity)
        have e : a * (127 * (1 / a)) = 127 := by field_simp
        linarith

/-- The scale of a 512 by 512 block: the greatest of its absolute values, and at least `tiny`. -/
def absmax (b : Fin 512 → Fin 512 → EReal) : EReal :=
  max ((Finset.univ : Finset (Fin 512 × Fin 512)).fold max ⊥ fun p => max (b p.1 p.2) (-b p.1 p.2)) tiny

theorem absmax_pos (b : Fin 512 → Fin 512 → EReal) : 0 < absmax b := lt_of_lt_of_le tiny_pos (le_max_right _ _)

theorem le_absmax (b : Fin 512 → Fin 512 → EReal) (r c : Fin 512) : max (b r c) (-b r c) ≤ absmax b :=
  le_trans ((Finset.le_fold_max _).mpr (Or.inr ⟨(r, c), Finset.mem_univ _, le_rfl⟩)) (le_max_left _ _)

/-- Two maxima over finite sets agree where every element of either is one of the other. -/
theorem fold_max_eq {ι κ : Type} (s : Finset ι) (t : Finset κ) (b : EReal) (f : ι → EReal) (g : κ → EReal)
    (h1 : ∀ i ∈ s, ∃ k ∈ t, f i = g k) (h2 : ∀ k ∈ t, ∃ i ∈ s, g k = f i) : s.fold max b f = t.fold max b g := by
  apply le_antisymm
  · refine (Finset.fold_max_le _).mpr ⟨(Finset.le_fold_max _).mpr (Or.inl le_rfl), fun i hi => ?_⟩
    obtain ⟨k, hk, e⟩ := h1 i hi
    exact (Finset.le_fold_max _).mpr (Or.inr ⟨k, hk, e.le⟩)
  · refine (Finset.fold_max_le _).mpr ⟨(Finset.le_fold_max _).mpr (Or.inl le_rfl), fun k hk => ?_⟩
    obtain ⟨i, hi, e⟩ := h2 k hk
    exact (Finset.le_fold_max _).mpr (Or.inr ⟨i, hi, e.le⟩)

end Cert.Exchange
-- ==== Proof.KBlock.lean ====
/-
# What one block of the kernel holds

The block of a device's rows times 512 columns of `w`, taken in two halves of the contracted axis; its scale; and the
block as its receiver gets it.
-/
module

public import proofs.«01_k».proof.Proof.Quant
public import proofs.«01_k».proof.Proof.Gen.KernelIdeal.Skeleton
public import Idealize.ShloMosaic.Lib.Pointwise

@[expose] public section

set_option maxRecDepth 16384

noncomputable section

namespace Cert.Exchange

open Cert.KernelIdeal Cert.KernelIdeal.Gen
open Idealize.ShloMosaic

/-- A block's element: the row's products with the column's, over the upper and over the lower half of the column. -/
def halves (x : Vec Ideal S512x2048 .f32) (up dn : Vec Ideal S1x1024x512 .f32) (r c : Fin 512) : EReal :=
  (∑ k : Fin 1024, x (ix2 r ⟨k.val, by omega⟩) * up (ix3 0 k c)) + ∑ k : Fin 1024, x (ix2 r ⟨1024 + k.val, by omega⟩) * dn (ix3 0 k c)

/-- The kernel's product of a block, read at an element. -/
theorem pay2_apply (x : Vec Ideal S512x2048 .f32) (up dn : Vec Ideal S1x1024x512 .f32) (r c : Fin 512) :
    k0_pay2 (k0_pay1 x) up dn (ix2 r c) = halves x up dn r c := by
  pointwise [k0_pay2, k0_pay1, halves]

/-- The scale of a block whose elements are `h`'s, as the kernel's reduction spells it. -/
theorem scale_eq (h : Fin 512 → Fin 512 → EReal) (g : FVec Ideal S512x512 .f32) (e : ∀ r c, g (ix2 r c) = h r c) :
    max (Finset.fold max (Ideal.ofBits FTy.f32 0xFF800000#32)
        (fun p : Fin 512 × Fin 512 => FloatOps.absf (g (ix2 p.1 p.2))) Finset.univ) (Ideal.ofBits FTy.f32 0x1E3CE508#32)
      = absmax h := by
  simp only [e, Ideal.absf_def, word_bot]
  unfold absmax tiny
  generalize (Finset.univ : Finset (Fin 512 × Fin 512)) = s
  rfl

/-- The kernel's scale of the block. -/
theorem pay4_apply (x : Vec Ideal S512x2048 .f32) (up dn : Vec Ideal S1x1024x512 .f32) :
    k0_pay4 (k0_pay3 (k0_pay1 x) up dn) = absmax (halves x up dn) := by
  have e := pay2_apply x up dn
  pointwise [k0_pay4, k0_pay3]
  generalize k0_pay2 (k0_pay1 x) up dn = g at e ⊢
  generalize halves x up dn = h at e ⊢
  exact scale_eq h g e

/-- A value's int8 rounding, for any block and any scale. -/
theorem bytes_eq (g : FVec Ideal S512x512 .f32) (v : FVec Ideal S1 .f32) (r c : Fin 512) :
    k0_pay5 g v (ix3 0 r c) = Ideal.fptosi 8 (scaled (k0_pay4 v) (g (ix2 r c))) := by
  pointwise [k0_pay5]
  unfold scaled
  generalize k0_pay4 v = a
  generalize g (ix2 r c) = y
  rw [word_127]
  rfl

/-- The bytes sent. -/
theorem pay5_apply (x : Vec Ideal S512x2048 .f32) (up dn : Vec Ideal S1x1024x512 .f32) (r c : Fin 512) :
    k0_pay5 (k0_pay2 (k0_pay1 x) up dn) (k0_pay3 (k0_pay1 x) up dn) (ix3 0 r c)
      = Ideal.fptosi 8 (scaled (absmax (halves x up dn)) (halves x up dn r c)) := by
  rw [bytes_eq, pay2_apply, pay4_apply]

/-- The scale sent with a block, the same in every word. -/
theorem scale_word (v : FVec Ideal S1 .f32) (i : S1x8x128.Idx) : k0_pay6 v i = (k0_pay4 v : EReal) * inv127 := by
  unfold k0_pay6
  generalize k0_pay4 v = a
  rfl

/-- The scale sent beside the bytes. -/
theorem pay6_apply (x : Vec Ideal S512x2048 .f32) (up dn : Vec Ideal S1x1024x512 .f32) (i : S1x8x128.Idx) :
    k0_pay6 (k0_pay3 (k0_pay1 x) up dn) i = absmax (halves x up dn) * inv127 := by
  rw [scale_word, pay4_apply]

/-- What a receiver makes of bytes and a scale. -/
theorem pay19_apply (b : Vec Ideal S1x512x512 .i8) (s : Vec Ideal S1x1x1 .f32) (r c : Fin 512) :
    shapeCast S512x512 (k0_pay19 (F := Ideal) b s) shapeCasts_S1x512x512_S512x512 (ix2 r c)
      = (((b (ix3 0 r c) : BitVec 8).toInt : ℝ) : EReal) * s (ix3 0 0 0) := by
  pointwise [k0_pay19]
  rfl

/-- So the receiver of a block holds what `arrived` says of each of its elements. -/
theorem received (x : Vec Ideal S512x2048 .f32) (up dn : Vec Ideal S1x1024x512 .f32) (s : Vec Ideal S1x1x1 .f32)
    (hs : s (ix3 0 0 0) = absmax (halves x up dn) * inv127) (r c : Fin 512) :
    shapeCast S512x512 (k0_pay19 (F := Ideal) (k0_pay5 (k0_pay2 (k0_pay1 x) up dn) (k0_pay3 (k0_pay1 x) up dn)) s)
        shapeCasts_S1x512x512_S512x512 (ix2 r c)
      = arrived (absmax (halves x up dn)) (halves x up dn r c) := by
  rw [pay19_apply, pay5_apply, hs, round_trip (absmax_pos _) (le_absmax _ r c), arrived]

/-- The device's own block is stored as it is. -/
theorem pay18_apply (x : Vec Ideal S512x2048 .f32) (up dn : Vec Ideal S1x1024x512 .f32) (r c : Fin 512) :
    shapeCast S512x512 (k0_pay18 (k0_pay1 x) up dn) shapeCasts_S1x512x512_S512x512 (ix2 r c) = halves x up dn r c := by
  have e : k0_pay18 (k0_pay1 x) up dn = shapeCast S1x512x512 (k0_pay2 (k0_pay1 x) up dn) shapeCasts_S512x512_S1x512x512 := rfl
  rw [e, ← pay2_apply]
  pointwise

end Cert.Exchange
-- ==== Proof.RefValue.lean ====
/-
# What the reference computes, read at an element
-/
module

public import proofs.«01_k».proof.Proof.Quant
public import proofs.«01_k».proof.Proof.Gen.ReferenceIdeal.Run
public import Idealize.ShloMosaic.Lib.Pointwise

@[expose] public section

set_option maxRecDepth 16384

noncomputable section

namespace Cert.Exchange.Ref

open Cert.ReferenceIdeal Cert.ReferenceIdeal.Gen
open Idealize.ShloMosaic

/-- The whole product's element. -/
def prod (x w : FVec Ideal S2048x2048 .f32) (r c : Fin 2048) : EReal := ∑ k : Fin 2048, x (ix2 r k) * w (ix2 k c)

/-- Element `a` of block `i` of an axis of 2048 in four. -/
def at4 (i : Fin 4) (a : Fin 512) : Fin 2048 := ⟨i.val * 512 + a.val, by omega⟩

/-- The product's block in row block `i` and column block `j`. -/
def blk (x w : FVec Ideal S2048x2048 .f32) (i j : Fin 4) (a b : Fin 512) : EReal := prod x w (at4 i a) (at4 j b)

/-- The product as blocks. -/
def B (x w : FVec Ideal S2048x2048 .f32) : FVec Ideal S4x512x4x512 .f32 :=
  shapeCast _ (Host.dotGeneral dot_S2048x2048_S2048x2048_S2048x2048_1_0_0_1_n_n none x w) shapeCasts_S2048x2048_S4x512x4x512

/-- The greatest absolute value of each block of `b`. -/
def greatest (b : FVec Ideal S4x512x4x512 .f32) : FVec Ideal S4x4 .f32 :=
  Host.reduce FloatOps.maximumf (Host.absf b) (constant S_ .f32 0xFF800000#32) reducesTo_S4x512x4x512_S4x4_d1_3 h_S_

/-- One number per block, from a four by four table of them. -/
def perBlock (v : FVec Ideal S4x4 .f32) : FVec Ideal S4x1x4x1 .f32 := broadcastInDim S4x1x4x1 ![0, 2] bcast_S4x4_S4x1x4x1_0_2 v

/-- The scales of the blocks of `b`. -/
def scales (b : FVec Ideal S4x512x4x512 .f32) : FVec Ideal S4x1x4x1 .f32 :=
  maximumf (perBlock (greatest b)) (broadcastInDim S4x1x4x1 ![] bcast_S_S4x1x4x1 (constant S_ .f32 0x1E3CE508#32))

/-- A number per block as an array over the elements. -/
def spread {α : Type} (v : S4x1x4x1.Idx → α) : S4x512x4x512.Idx → α :=
  broadcastInDim S4x512x4x512 ![0, 1, 2, 3] bcast_S4x1x4x1_S4x512x4x512_0_1_2_3 v

/-- One number per block. -/
def splat (b : BitVec 32) : FVec Ideal S4x1x4x1 .f32 := broadcastInDim S4x1x4x1 ![] bcast_S_S4x1x4x1 (constant S_ .f32 b)

/-- The blocks as the devices hold them at the end, `b` the product's blocks and `s` their scales. -/
def exchanged (b : FVec Ideal S4x512x4x512 .f32) (s : FVec Ideal S4x1x4x1 .f32) : FVec Ideal S4x512x4x512 .f32 :=
  select (spread (cmpi .eq (iotaInDim S4x1x4x1 32 0) (iotaInDim S4x1x4x1 32 2))) b
    (mulf (Host.roundeven (mulf b (spread (Host.divf (splat 0x42FE0000#32) s)))) (spread (mulf s (splat 0x3C010204#32))))

/-- The reference's result. -/
def out (x w : FVec Ideal S2048x2048 .f32) : FVec Ideal S2048x2048 .f32 :=
  shapeCast _ (exchanged (B x w) (scales (B x w))) shapeCasts_S4x512x4x512_S2048x2048

/-- The blocks read off the product. -/
theorem B_apply (x w : FVec Ideal S2048x2048 .f32) (i j : Fin 4) (a b : Fin 512) : B x w (ix4 i a j b) = blk x w i j a b := by
  pointwise [B, blk, prod, at4]

/-- The indices that a reduction over the second and fourth axes takes to one place. -/
theorem drop_eq (k : S4x512x4x512.Idx) (i j : Fin 4) :
    reducesTo_S4x512x4x512_S4x4_d1_3.drop k = ix2 i j ↔ ∃ p : Fin 512 × Fin 512, k = ix4 i p.1 j p.2 := by
  have h0 : (reducesTo_S4x512x4x512_S4x4_d1_3.drop k 0 : ℕ) = k 0 := Shape.ReducesTo.drop_apply_val_of_eq _ k 0 0
  have h1 : (reducesTo_S4x512x4x512_S4x4_d1_3.drop k 1 : ℕ) = k 2 := Shape.ReducesTo.drop_apply_val_of_eq _ k 1 2
  constructor
  · intro h
    rw [h] at h0 h1
    refine ⟨(k 1, k 3), ?_⟩
    funext a
    fin_cases a
    · exact Fin.ext h0.symm
    · rfl
    · exact Fin.ext h1.symm
    · rfl
  · rintro ⟨p, rfl⟩
    funext a
    fin_cases a
    · exact Fin.ext h0
    · exact Fin.ext h1

/-- The greatest absolute value of a block, as a maximum over its elements. -/
theorem greatest_apply (g : FVec Ideal S4x512x4x512 .f32) (i j : Fin 4) :
    greatest g (ix2 i j)
      = (Finset.univ : Finset (Fin 512 × Fin 512)).fold max ⊥ fun p => max (g (ix4 i p.1 j p.2)) (-g (ix4 i p.1 j p.2)) := by
  unfold greatest
  rw [Host.reduce_eq_fold]
  have e : (constant S_ .f32 0xFF800000#32 : FVec Ideal S_ .f32) (Shape.Idx.first h_S_) = (⊥ : EReal) := word_bot
  rw [e]
  refine fold_max_eq _ _ ⊥ _ _ (fun k hk => ?_) (fun p _ => ?_)
  · obtain ⟨p, rfl⟩ := (drop_eq k i j).mp (Finset.mem_filter.mp hk).2
    exact ⟨p, Finset.mem_univ _, rfl⟩
  · exact ⟨ix4 i p.1 j p.2, Finset.mem_filter.mpr ⟨Finset.mem_univ _, (drop_eq _ i j).mpr ⟨p, rfl⟩⟩, rfl⟩

/-- The table's number of a block. -/
theorem perBlock_apply (v : FVec Ideal S4x4 .f32) (i j : Fin 4) : perBlock v (ix4 i 0 j 0) = v (ix2 i j) := by
  pointwise [perBlock]

/-- A scale is at least the least scale. -/
theorem scale_of (v : FVec Ideal S4x1x4x1 .f32) (k : S4x1x4x1.Idx) :
    maximumf v (broadcastInDim S4x1x4x1 ![] bcast_S_S4x1x4x1 (constant S_ .f32 0x1E3CE508#32)) k = max (v k : EReal) tiny := by
  unfold tiny
  pointwise

/-- Each scale is the greatest absolute value of its block, and at least the least scale. -/
theorem scales_apply (g : FVec Ideal S4x512x4x512 .f32) (i j : Fin 4) :
    scales g (ix4 i 0 j 0) = absmax fun a b => g (ix4 i a j b) := by
  have e := scale_of (perBlock (greatest g)) (ix4 i 0 j 0)
  rw [perBlock_apply, greatest_apply] at e
  unfold scales absmax
  exact e

/-- An element of a block reads its block's number. -/
theorem spread_apply {α : Type} (v : S4x1x4x1.Idx → α) (i j : Fin 4) (a c : Fin 512) : spread v (ix4 i a j c) = v (ix4 i 0 j 0) := by
  pointwise [spread]

/-- The word that tells a diagonal block. -/
theorem diag_apply (i j : Fin 4) :
    cmpi .eq (iotaInDim S4x1x4x1 32 0) (iotaInDim S4x1x4x1 32 2) (ix4 i 0 j 0) = if i = j then 1#1 else 0#1 := by
  revert i j; decide

/-- A diagonal block stays as it is, any other goes through the quantiser. -/
theorem exchanged_apply (b : FVec Ideal S4x512x4x512 .f32) (s : FVec Ideal S4x1x4x1 .f32) (i j : Fin 4) (a c : Fin 512) :
    exchanged b s (ix4 i a j c) = if i = j then b (ix4 i a j c) else arrived (s (ix4 i 0 j 0)) (b (ix4 i a j c)) := by
  have e : exchanged b s (ix4 i a j c) = Scalar.select (spread (cmpi .eq (iotaInDim S4x1x4x1 32 0) (iotaInDim S4x1x4x1 32 2)) (ix4 i a j c)) (b (ix4 i a j c))
      (Ideal.liftRound Ideal.roundHalfEven (b (ix4 i a j c) * spread (Host.divf (splat 0x42FE0000#32) s) (ix4 i a j c)) * spread (mulf s (splat 0x3C010204#32)) (ix4 i a j c)) := rfl
  rw [e, spread_apply, spread_apply, spread_apply, diag_apply]
  have e1 : Host.divf (splat 0x42FE0000#32) s (ix4 i 0 j 0) = Ideal.div ((127 : ℝ) : EReal) (s (ix4 i 0 j 0)) := by
    rw [← word_127]; rfl
  have e2 : mulf s (splat 0x3C010204#32) (ix4 i 0 j 0) = s (ix4 i 0 j 0) * inv127 := rfl
  rw [e1, e2]
  unfold arrived scaled
  generalize s (ix4 i 0 j 0) = t
  generalize b (ix4 i a j c) = y
  split <;> rfl

/-- The blocks laid out as one array again. -/
theorem cast_apply (b : FVec Ideal S4x512x4x512 .f32) (i j : Fin 4) (a c : Fin 512) :
    shapeCast S2048x2048 b shapeCasts_S4x512x4x512_S2048x2048 (ix2 (at4 i a) (at4 j c)) = b (ix4 i a j c) := by
  pointwise [at4]

/-- The result, element by element. -/
theorem out_apply (x w : FVec Ideal S2048x2048 .f32) (i j : Fin 4) (a b : Fin 512) :
    out x w (ix2 (at4 i a) (at4 j b)) = if i = j then blk x w i j a b else arrived (absmax (blk x w i j)) (blk x w i j a b) := by
  have e : (fun a b => B x w (ix4 i a j b)) = blk x w i j := funext fun a => funext fun b => B_apply x w i j a b
  rw [out, cast_apply, exchanged_apply, scales_apply, e, B_apply]

end Cert.Exchange.Ref
-- ==== Proof.Value.lean ====
/-
# The kernel's result is the reference's

With `x` cut in four row blocks over the devices and `w` on each of them, the four row blocks a device ends with are the
reference's, in the device's column block.
-/
module

public import proofs.«01_k».proof.Defs
public import proofs.«01_k».proof.Proof.Launch
public import proofs.«01_k».proof.Proof.KBlock
public import proofs.«01_k».proof.Proof.RefValue

@[expose] public section

set_option maxRecDepth 16384

noncomputable section

namespace Cert.Exchange

open Cert.KernelIdeal Cert.KernelIdeal.Gen
open Idealize.ShloMosaic Idealize.ShloMosaic.TcCoe Idealize.SL.Sem
open Cert.Exchange.Ref (at4 blk out)

/-- The device `r` on from `c`, whose columns a product with weight columns `r` makes. -/
def target (c : Dev nD) (r : Fin 4) : Fin 4 := ⟨(c.val + r.val) % 4, Nat.mod_lt _ (by decide)⟩

/-- Where the upper half of those columns begins; -/
theorem off_up (c : Dev nD) (r : Fin 4) : k0_off1 c (BitVec.ofNat 32 r.val) = ![0, 512 * (target c r).val] := by revert c r; decide

/-- and the lower half. -/
theorem off_dn (c : Dev nD) (r : Fin 4) : k0_off2 c (BitVec.ofNat 32 r.val) = ![1024, 512 * (target c r).val] := by revert c r; decide

section
variable (m : (ℓ : Loc nD τ sig) → Buf (Elt Ideal) ℓ) (X W : FVec Ideal ⟨2, ![2048, 2048]⟩ .f32)

/-- The arguments as the claim has them: `x` in row blocks, `w` whole. -/
def Agrees : Prop := ∀ c : Dev nD,
  m ((c : Thread nD τ).loc main_arg0) = Layout.block ⟨2, ![512, 2048]⟩ ⟨2, ![2048, 2048]⟩ 0 4 c X ∧ m ((c : Thread nD τ).loc main_arg1) = W

variable {m X W}

/-- A device's rows. -/
theorem xv_apply (h : Agrees m X W) (c : Dev nD) (a : Fin 512) (k : Fin 2048) : xv m c (ix2 a k) = X (ix2 (at4 c a) k) := by
  have e : xv m c = m ((c : Thread nD τ).loc main_arg0) := rfl
  rw [e, (h c).1, Layout.block_apply]
  refine congrArg X ?_
  funext d
  fin_cases d
  · rfl
  · rfl

/-- The upper half of a device's columns for another; -/
theorem wUp_apply (h : Agrees m X W) (c : Dev nD) (r : Fin 4) (k : Fin 1024) (b : Fin 512) :
    wUp' m c r (ix3 0 k b) = W (ix2 ⟨k.val, by omega⟩ (at4 (target c r) b)) := by
  have e : wUp' m c r (ix3 0 k b) = wUp m c r (ix2 k b) := by
    unfold wUp'
    generalize wUp m c r = v
    pointwise
  have e2 : wUp m c r (ix2 k b)
      = m ((c : Thread nD τ).loc main_arg1) ((Rect.unit (s := S2048x2048) (k0_off1 c (BitVec.ofNat 32 r.val)) S1024x512.size (k0_off1_inb c r)).idx (ix2 k b)) := rfl
  rw [e, e2, (h c).2]
  refine congrArg W ?_
  have ho := off_up c r
  funext d
  fin_cases d
  · refine Fin.ext ?_
    show k0_off1 c (BitVec.ofNat 32 r.val) 0 + 1 * k.val = k.val
    rw [ho]; show 0 + 1 * k.val = k.val; omega
  · refine Fin.ext ?_
    show k0_off1 c (BitVec.ofNat 32 r.val) 1 + 1 * b.val = (target c r).val * 512 + b.val
    rw [ho]; show 512 * (target c r).val + 1 * b.val = _; omega

/-- and the lower. -/
theorem wDn_apply (h : Agrees m X W) (c : Dev nD) (r : Fin 4) (k : Fin 1024) (b : Fin 512) :
    wDn' m c r (ix3 0 k b) = W (ix2 ⟨1024 + k.val, by omega⟩ (at4 (target c r) b)) := by
  have e : wDn' m c r (ix3 0 k b) = wDn m c r (ix2 k b) := by
    unfold wDn'
    generalize wDn m c r = v
    pointwise
  have e2 : wDn m c r (ix2 k b)
      = m ((c : Thread nD τ).loc main_arg1) ((Rect.unit (s := S2048x2048) (k0_off2 c (BitVec.ofNat 32 r.val)) S1024x512.size (k0_off2_inb c r)).idx (ix2 k b)) := rfl
  rw [e, e2, (h c).2]
  refine congrArg W ?_
  have ho := off_dn c r
  funext d
  fin_cases d
  · refine Fin.ext ?_
    show k0_off2 c (BitVec.ofNat 32 r.val) 0 + 1 * k.val = 1024 + k.val
    rw [ho]; show 1024 + 1 * k.val = _; omega
  · refine Fin.ext ?_
    show k0_off2 c (BitVec.ofNat 32 r.val) 1 + 1 * b.val = (target c r).val * 512 + b.val
    rw [ho]; show 512 * (target c r).val + 1 * b.val = _; omega

/-- A block a device computes is the product's: its own row block, the target's columns. -/
theorem halves_eq (h : Agrees m X W) (c : Dev nD) (r : Fin 4) : halves (xv m c) (wUp' m c r) (wDn' m c r) = blk X W c (target c r) := by
  funext a b
  unfold halves blk Ref.prod
  rw [Fin.sum_univ_two_halves 1024 1024 rfl]
  refine congrArg₂ (· + ·) (Finset.sum_congr rfl fun k _ => ?_) (Finset.sum_congr rfl fun k _ => ?_)
  · rw [wUp_apply h, xv_apply h]
  · rw [wDn_apply h, xv_apply h]

/-- The result of a device, in the row block of device `i` and at its own columns. -/
def final (X W : FVec Ideal ⟨2, ![2048, 2048]⟩ .f32) (i c : Fin 4) (a b : Fin 512) : EReal :=
  if i = c then blk X W i c a b else arrived (absmax (blk X W i c)) (blk X W i c a b)

/-- A block received is the quantiser's of the product's. -/
theorem received_eq (h : Agrees m X W) (d c : Dev nD) (r : Fin 4) (s : Vec Ideal S1x1x1 .f32) (ht : target d r = c) (hd : d ≠ c)
    (hs : s (ix3 0 0 0) = k0_pay6 (k0_pay3 (k0_pay1 (xv m d)) (wUp' m d r) (wDn' m d r)) (ix3 0 0 0)) (a b : Fin 512) :
    shapeCast S512x512 (k0_pay19 (F := Ideal) (k0_pay5 (k0_pay2 (k0_pay1 (xv m d)) (wUp' m d r) (wDn' m d r)) (k0_pay3 (k0_pay1 (xv m d)) (wUp' m d r) (wDn' m d r))) s)
        shapeCasts_S1x512x512_S512x512 (ix2 a b)
      = final X W d c a b := by
  rw [pay6_apply] at hs
  rw [received _ _ _ s hs, halves_eq h, ht, final, if_neg hd]

/-- Each of the four blocks is the reference's in its row block and the device's column block. -/
theorem outV_apply (h : Agrees m X W) (c : Dev nD) (j : Fin 4) (a b : Fin 512) : outV m c j (ix2 a b) = final X W (rowDev c j) c a b := by
  match j with
  | 0 => exact received_eq h (source 0 c) c 1 (scl m (source 0 c) 0) (by revert c; decide) (by revert c; decide) rfl a b
  | 1 => exact received_eq h (source 1 c) c 3 (scl m (source 1 c) 1) (by revert c; decide) (by revert c; decide) rfl a b
  | 2 => exact received_eq h (source 2 c) c 2 (scl m (source 2 c) 2) (by revert c; decide) (by revert c; decide) rfl a b
  | 3 =>
    have e : target c 0 = c := by revert c; decide
    show shapeCast S512x512 (k0_pay18 (k0_pay1 (xv m c)) (wUp' m c 0) (wDn' m c 0)) shapeCasts_S1x512x512_S512x512 (ix2 a b) = final X W c c a b
    rw [pay18_apply, halves_eq h, e, final, if_pos rfl]

/-- Reading a row block of the result is reading the result there. -/
theorem read_oPc (c : Dev nD) (f : Buf (Elt Ideal) ((c : Thread nD τ).loc main_v1)) (j : Fin 4) (a b : Fin 512) :
    (oPc c j).view.read (Elt Ideal) (match j with | 0 => f | 1 => f | 2 => f | 3 => f) (ix2 a b) = f (ix2 (at4 (rowDev c j) a) b) := by
  have key : ∀ (o : Fin 2 → ℕ) (ho : ∀ d, o d + S512x512.size d ≤ S2048x512.size d), o = ![512 * (rowDev c j).val, 0] →
      f ((Rect.unit (s := S2048x512) o S512x512.size ho).idx (ix2 a b)) = f (ix2 (at4 (rowDev c j) a) b) := by
    intro o ho e
    subst e
    refine congrArg f ?_
    funext d
    fin_cases d
    · refine Fin.ext ?_
      show 512 * (rowDev c j).val + 1 * a.val = (rowDev c j).val * 512 + a.val; omega
    · refine Fin.ext ?_
      show 0 + 1 * b.val = b.val; omega
  match j, key with
  | 0, key => exact key _ (k0_off5_inb c) (off_row0 c)
  | 1, key => exact key _ (k0_off4_inb c 0) (off_row1 c)
  | 2, key => exact key _ (k0_off4_inb c 1) (off_row2 c)
  | 3, key => exact key _ (k0_off3_inb c) (off_row3 c)

/-- A row of the result lies in one of the four row blocks. -/
theorem row_block (c : Dev nD) (i : S2048x512.Idx) : ∃ (j : Fin 4) (a b : Fin 512), i = ix2 (at4 (rowDev c j) a) b := by
  have hi : (i 0).val < 2048 := (i 0).isLt
  obtain ⟨j, hj⟩ := rowDev_surjective c ⟨(i 0).val / 512, by show _ < 4; omega⟩
  have hj' : (rowDev c j).val = (i 0).val / 512 := congrArg Fin.val hj
  refine ⟨j, ⟨(i 0).val % 512, Nat.mod_lt _ (by decide)⟩, i 1, ?_⟩
  funext d
  fin_cases d
  · refine Fin.ext ?_
    show (i 0).val = (rowDev c j).val * 512 + (i 0).val % 512; omega
  · rfl

/-- A column block of an array, read. -/
theorem block_at (Z : (⟨2, ![2048, 2048]⟩ : Shape).Idx → EReal) (c : Dev nD) (k : Fin 4) (a b : Fin 512) :
    (Layout.block ⟨2, ![2048, 512]⟩ ⟨2, ![2048, 2048]⟩ 1 4 c Z) (ix2 (at4 k a) b) = Z (ix2 (at4 k a) (at4 c b)) := by
  rw [Layout.block_apply]
  refine congrArg Z ?_
  funext d
  fin_cases d
  · rfl
  · rfl

/-- What a device that holds the run's result has in a row block. -/
theorem held (c : Dev nD) (s : MemSt nD τ sig (Elt Ideal)) (hs : Holds m c s) (j : Fin 4) (a b : Fin 512) :
    s.mem ((c : Thread nD τ).loc main_v1) (ix2 (at4 (rowDev c j) a) b) = outV m c j (ix2 a b) := by
  have hr := congrFun (hs.2.2 j) (ix2 a b)
  have hp := read_oPc c (s.mem ((c : Thread nD τ).loc main_v1)) j a b
  refine hp.symm.trans (Eq.trans ?_ hr)
  match j with
  | 0 => rfl
  | 1 => rfl
  | 2 => rfl
  | 3 => rfl

/-- So the result of a device is its column block of the reference's. -/
theorem result_eq (h : Agrees m X W) (c : Dev nD) (s : MemSt nD τ sig (Elt Ideal)) (hs : Holds m c s) :
    s.mem ((c : Thread nD τ).loc main_v1) = Layout.block ⟨2, ![2048, 512]⟩ ⟨2, ![2048, 2048]⟩ 1 4 c (out X W) := by
  have hv : ∀ (j : Fin 4) (a b : Fin 512), outV m c j (ix2 a b) = out X W (ix2 (at4 (rowDev c j) a) (at4 c b)) :=
    fun j a b => (outV_apply h c j a b).trans (Ref.out_apply X W (rowDev c j) c a b).symm
  revert hv
  generalize out X W = Z
  intro hv
  funext i
  obtain ⟨j, a, b, rfl⟩ := row_block c i
  exact (held c s hs j a b).trans ((hv j a b).trans (block_at Z c (rowDev c j) a b).symm)

end

/-- Kernel and reference compute the same function over the extended reals. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨out (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · exact (θ_run (Cert.KernelIdeal.defs (F := Ideal)) _ _).mono
      (fun r h c => ⟨result_eq hag c r.2 (h.1 c), (h.1 c).1, (h.1 c).2.1⟩) (run_main (F := Ideal) m g)
  · exact (θ_run (Cert.ReferenceIdeal.defs (F := Ideal)) _ _).mono (fun r h => h 0) (Cert.ReferenceIdeal.Value.run m' g')

end Cert.Exchange
-- ==== Proof.lean ====
/-
# The certificate

The frames of the program, of its ideal reading and of the reference; the ideal reading keeps the program as it is printed;
and over the extended reals every device ends with its columns of the reference's result.
-/
module

public import proofs.«01_k».proof.Defs
public import proofs.«01_k».proof.Proof.Frames
public import proofs.«01_k».proof.Proof.Value

@[expose] public section

noncomputable section

namespace Cert.Proof

/-- Every claim that `Cert.Claim` lists. -/
theorem claim : Cert.Claim :=
  ⟨Cert.Kernel.Gen.facts, Cert.KernelIdeal.Gen.facts, Cert.ReferenceIdeal.Gen.facts,
    Cert.Exchange.frame_bits, Cert.Exchange.frame_ideal, Cert.Exchange.frame_reference, trivial, Cert.Exchange.algebraic⟩

end Cert.Proof

end
